-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_classes [hPre_finite_in_classes : Cert.Pre_finite_in_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_classes [hPre_finite_in_classes : Cert.Pre_finite_in_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_TargetLossIdeal [hPre_finite_in_classes : Cert.Pre_finite_in_classes.Facts] (m : (ℓ : Loc Cert.TargetLossIdeal.nD Cert.TargetLossIdeal.τ Cert.TargetLossIdeal.sig) → Buf (Elt Ideal) ℓ) : Prop :=
  ∀ c : Dev Cert.TargetLossIdeal.nD,
    (Cert.Pre_finite_in_classes.fn (F := Ideal) (m ((c.tc : Thread Cert.TargetLossIdeal.nD Cert.TargetLossIdeal.τ).loc Cert.TargetLossIdeal.main_arg0)) (m ((c.tc : Thread Cert.TargetLossIdeal.nD Cert.TargetLossIdeal.τ).loc Cert.TargetLossIdeal.main_arg1)) (m ((c.tc : Thread Cert.TargetLossIdeal.nD Cert.TargetLossIdeal.τ).loc Cert.TargetLossIdeal.main_arg2))) = (fun _ => 1#1)

def Pre_TargetLossReferenceIdeal [hPre_finite_in_classes : Cert.Pre_finite_in_classes.Facts] (m : (ℓ : Loc Cert.TargetLossReferenceIdeal.nD Cert.TargetLossReferenceIdeal.τ Cert.TargetLossReferenceIdeal.sig) → Buf (Elt Ideal) ℓ) : Prop :=
  ∀ c : Dev Cert.TargetLossReferenceIdeal.nD,
    (Cert.Pre_finite_in_classes.fn (F := Ideal) (m ((c.tc : Thread Cert.TargetLossReferenceIdeal.nD Cert.TargetLossReferenceIdeal.τ).loc Cert.TargetLossReferenceIdeal.main_arg0)) (m ((c.tc : Thread Cert.TargetLossReferenceIdeal.nD Cert.TargetLossReferenceIdeal.τ).loc Cert.TargetLossReferenceIdeal.main_arg1)) (m ((c.tc : Thread Cert.TargetLossReferenceIdeal.nD Cert.TargetLossReferenceIdeal.τ).loc Cert.TargetLossReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_classes [hKernelIdeal : Cert.KernelIdeal.Facts] [hPre_finite_in_classes : Cert.Pre_finite_in_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_classes [hReferenceIdeal : Cert.ReferenceIdeal.Facts] [hPre_finite_in_classes : Cert.Pre_finite_in_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_TargetLossIdeal [hTargetLossIdeal : Cert.TargetLossIdeal.Facts] [hPre_finite_in_classes : Cert.Pre_finite_in_classes.Facts] : Prop :=
  ∀ (m : (ℓ : Loc Cert.TargetLossIdeal.nD Cert.TargetLossIdeal.τ Cert.TargetLossIdeal.sig) → Buf (Elt Ideal) ℓ) (g : Dev Cert.TargetLossIdeal.nD → PrngReg), Pre_TargetLossIdeal m →
    θ_run (Cert.TargetLossIdeal.defs (F := Ideal)) (onTc (τ := Cert.TargetLossIdeal.τ) (Cert.TargetLossIdeal.main (F := Ideal))) ⟨m, fun _ => 0, g⟩ (fun r => (∀ c : Dev Cert.TargetLossIdeal.nD,
      r.2.mem ((c.tc : Thread Cert.TargetLossIdeal.nD Cert.TargetLossIdeal.τ).loc Cert.TargetLossIdeal.main_arg0) = m ((c.tc : Thread Cert.TargetLossIdeal.nD Cert.TargetLossIdeal.τ).loc Cert.TargetLossIdeal.main_arg0)
      ∧ r.2.mem ((c.tc : Thread Cert.TargetLossIdeal.nD Cert.TargetLossIdeal.τ).loc Cert.TargetLossIdeal.main_arg1) = m ((c.tc : Thread Cert.TargetLossIdeal.nD Cert.TargetLossIdeal.τ).loc Cert.TargetLossIdeal.main_arg1)
      ∧ r.2.mem ((c.tc : Thread Cert.TargetLossIdeal.nD Cert.TargetLossIdeal.τ).loc Cert.TargetLossIdeal.main_arg2) = m ((c.tc : Thread Cert.TargetLossIdeal.nD Cert.TargetLossIdeal.τ).loc Cert.TargetLossIdeal.main_arg2))
      ∧ r.2.sem = fun _ => 0)

def quiescent_TargetLossReferenceIdeal [hTargetLossReferenceIdeal : Cert.TargetLossReferenceIdeal.Facts] [hPre_finite_in_classes : Cert.Pre_finite_in_classes.Facts] : Prop :=
  ∀ (m : (ℓ : Loc Cert.TargetLossReferenceIdeal.nD Cert.TargetLossReferenceIdeal.τ Cert.TargetLossReferenceIdeal.sig) → Buf (Elt Ideal) ℓ) (g : Dev Cert.TargetLossReferenceIdeal.nD → PrngReg), Pre_TargetLossReferenceIdeal m →
    θ_run (Cert.TargetLossReferenceIdeal.defs (F := Ideal)) (onTc (τ := Cert.TargetLossReferenceIdeal.τ) (Cert.TargetLossReferenceIdeal.main (F := Ideal))) ⟨m, fun _ => 0, g⟩ (fun r => (∀ c : Dev Cert.TargetLossReferenceIdeal.nD,
      r.2.mem ((c.tc : Thread Cert.TargetLossReferenceIdeal.nD Cert.TargetLossReferenceIdeal.τ).loc Cert.TargetLossReferenceIdeal.main_arg0) = m ((c.tc : Thread Cert.TargetLossReferenceIdeal.nD Cert.TargetLossReferenceIdeal.τ).loc Cert.TargetLossReferenceIdeal.main_arg0)
      ∧ r.2.mem ((c.tc : Thread Cert.TargetLossReferenceIdeal.nD Cert.TargetLossReferenceIdeal.τ).loc Cert.TargetLossReferenceIdeal.main_arg1) = m ((c.tc : Thread Cert.TargetLossReferenceIdeal.nD Cert.TargetLossReferenceIdeal.τ).loc Cert.TargetLossReferenceIdeal.main_arg1)
      ∧ r.2.mem ((c.tc : Thread Cert.TargetLossReferenceIdeal.nD Cert.TargetLossReferenceIdeal.τ).loc Cert.TargetLossReferenceIdeal.main_arg2) = m ((c.tc : Thread Cert.TargetLossReferenceIdeal.nD Cert.TargetLossReferenceIdeal.τ).loc Cert.TargetLossReferenceIdeal.main_arg2))
      ∧ r.2.sem = fun _ => 0)

def preserves_Kernel_KernelIdeal : Prop :=
  True

def algebraic_KernelIdeal_ReferenceIdeal_pre_finite_in_classes [hKernelIdeal : Cert.KernelIdeal.Facts] [hReferenceIdeal : Cert.ReferenceIdeal.Facts] [hPre_finite_in_classes : Cert.Pre_finite_in_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_TargetLossIdeal_TargetLossReferenceIdeal [hTargetLossIdeal : Cert.TargetLossIdeal.Facts] [hTargetLossReferenceIdeal : Cert.TargetLossReferenceIdeal.Facts] [hPre_finite_in_classes : Cert.Pre_finite_in_classes.Facts] : Prop :=
  ∀ (m : (ℓ : Loc Cert.TargetLossIdeal.nD Cert.TargetLossIdeal.τ Cert.TargetLossIdeal.sig) → Buf (Elt Ideal) ℓ) (g : Dev Cert.TargetLossIdeal.nD → PrngReg)
    (m' : (ℓ : Loc Cert.TargetLossReferenceIdeal.nD Cert.TargetLossReferenceIdeal.τ Cert.TargetLossReferenceIdeal.sig) → Buf (Elt Ideal) ℓ) (g' : Dev Cert.TargetLossReferenceIdeal.nD → PrngReg), Pre_TargetLossIdeal m →
    (∀ c : Dev Cert.TargetLossIdeal.nD,
      m' ((c.tc : Thread Cert.TargetLossReferenceIdeal.nD Cert.TargetLossReferenceIdeal.τ).loc Cert.TargetLossReferenceIdeal.main_arg0) = m ((c.tc : Thread Cert.TargetLossIdeal.nD Cert.TargetLossIdeal.τ).loc Cert.TargetLossIdeal.main_arg0)
      ∧ m' ((c.tc : Thread Cert.TargetLossReferenceIdeal.nD Cert.TargetLossReferenceIdeal.τ).loc Cert.TargetLossReferenceIdeal.main_arg1) = m ((c.tc : Thread Cert.TargetLossIdeal.nD Cert.TargetLossIdeal.τ).loc Cert.TargetLossIdeal.main_arg1)
      ∧ m' ((c.tc : Thread Cert.TargetLossReferenceIdeal.nD Cert.TargetLossReferenceIdeal.τ).loc Cert.TargetLossReferenceIdeal.main_arg2) = m ((c.tc : Thread Cert.TargetLossIdeal.nD Cert.TargetLossIdeal.τ).loc Cert.TargetLossIdeal.main_arg2)) →
    ∃ (v0 : (c : Dev Cert.TargetLossIdeal.nD) → Buf (Elt Ideal) ((c.tc : Thread Cert.TargetLossIdeal.nD Cert.TargetLossIdeal.τ).loc Cert.TargetLossIdeal.main_v3)),
      θ_run (Cert.TargetLossIdeal.defs (F := Ideal)) (onTc (τ := Cert.TargetLossIdeal.τ) (Cert.TargetLossIdeal.main (F := Ideal))) ⟨m, fun _ => 0, g⟩ (fun r => ∀ c : Dev Cert.TargetLossIdeal.nD,
          r.2.mem ((c.tc : Thread Cert.TargetLossIdeal.nD Cert.TargetLossIdeal.τ).loc Cert.TargetLossIdeal.main_v3) = v0 c
          ∧ r.2.mem ((c.tc : Thread Cert.TargetLossIdeal.nD Cert.TargetLossIdeal.τ).loc Cert.TargetLossIdeal.main_arg0) = m ((c.tc : Thread Cert.TargetLossIdeal.nD Cert.TargetLossIdeal.τ).loc Cert.TargetLossIdeal.main_arg0)
          ∧ r.2.mem ((c.tc : Thread Cert.TargetLossIdeal.nD Cert.TargetLossIdeal.τ).loc Cert.TargetLossIdeal.main_arg1) = m ((c.tc : Thread Cert.TargetLossIdeal.nD Cert.TargetLossIdeal.τ).loc Cert.TargetLossIdeal.main_arg1)
          ∧ r.2.mem ((c.tc : Thread Cert.TargetLossIdeal.nD Cert.TargetLossIdeal.τ).loc Cert.TargetLossIdeal.main_arg2) = m ((c.tc : Thread Cert.TargetLossIdeal.nD Cert.TargetLossIdeal.τ).loc Cert.TargetLossIdeal.main_arg2))
      ∧ θ_run (Cert.TargetLossReferenceIdeal.defs (F := Ideal)) (onTc (τ := Cert.TargetLossReferenceIdeal.τ) (Cert.TargetLossReferenceIdeal.main (F := Ideal))) ⟨m', fun _ => 0, g'⟩ (fun r => ∀ c : Dev Cert.TargetLossReferenceIdeal.nD,
          r.2.mem ((c.tc : Thread Cert.TargetLossReferenceIdeal.nD Cert.TargetLossReferenceIdeal.τ).loc Cert.TargetLossReferenceIdeal.main_v55) = v0 c
          ∧ r.2.mem ((c.tc : Thread Cert.TargetLossReferenceIdeal.nD Cert.TargetLossReferenceIdeal.τ).loc Cert.TargetLossReferenceIdeal.main_arg0) = m' ((c.tc : Thread Cert.TargetLossReferenceIdeal.nD Cert.TargetLossReferenceIdeal.τ).loc Cert.TargetLossReferenceIdeal.main_arg0)
          ∧ r.2.mem ((c.tc : Thread Cert.TargetLossReferenceIdeal.nD Cert.TargetLossReferenceIdeal.τ).loc Cert.TargetLossReferenceIdeal.main_arg1) = m' ((c.tc : Thread Cert.TargetLossReferenceIdeal.nD Cert.TargetLossReferenceIdeal.τ).loc Cert.TargetLossReferenceIdeal.main_arg1)
          ∧ r.2.mem ((c.tc : Thread Cert.TargetLossReferenceIdeal.nD Cert.TargetLossReferenceIdeal.τ).loc Cert.TargetLossReferenceIdeal.main_arg2) = m' ((c.tc : Thread Cert.TargetLossReferenceIdeal.nD Cert.TargetLossReferenceIdeal.τ).loc Cert.TargetLossReferenceIdeal.main_arg2))

def Claim : Prop :=
  ∃ (hKernel : Cert.Kernel.Facts) (hKernelIdeal : Cert.KernelIdeal.Facts) (hReferenceIdeal : Cert.ReferenceIdeal.Facts) (hTargetLossIdeal : Cert.TargetLossIdeal.Facts) (hTargetLossReferenceIdeal : Cert.TargetLossReferenceIdeal.Facts) (hPre_finite_in_classes : Cert.Pre_finite_in_classes.Facts),
    quiescent_Kernel (hKernel := hKernel)
    ∧ quiescent_KernelIdeal (hKernelIdeal := hKernelIdeal)
    ∧ quiescent_KernelIdeal_pre_finite_in_classes (hKernelIdeal := hKernelIdeal) (hPre_finite_in_classes := hPre_finite_in_classes)
    ∧ quiescent_ReferenceIdeal (hReferenceIdeal := hReferenceIdeal)
    ∧ quiescent_ReferenceIdeal_pre_finite_in_classes (hReferenceIdeal := hReferenceIdeal) (hPre_finite_in_classes := hPre_finite_in_classes)
    ∧ quiescent_TargetLossIdeal (hTargetLossIdeal := hTargetLossIdeal) (hPre_finite_in_classes := hPre_finite_in_classes)
    ∧ quiescent_TargetLossReferenceIdeal (hTargetLossReferenceIdeal := hTargetLossReferenceIdeal) (hPre_finite_in_classes := hPre_finite_in_classes)
    ∧ preserves_Kernel_KernelIdeal
    ∧ algebraic_KernelIdeal_ReferenceIdeal_pre_finite_in_classes (hKernelIdeal := hKernelIdeal) (hReferenceIdeal := hReferenceIdeal) (hPre_finite_in_classes := hPre_finite_in_classes)
    ∧ algebraic_TargetLossIdeal_TargetLossReferenceIdeal (hTargetLossIdeal := hTargetLossIdeal) (hTargetLossReferenceIdeal := hTargetLossReferenceIdeal) (hPre_finite_in_classes := hPre_finite_in_classes)
-- ==== Pre_finite_in_classes.lean ====
abbrev S4096x64 : Shape := ⟨2, ![4096, 64]⟩
abbrev S4096 : Shape := ⟨1, ![4096]⟩
abbrev S10x512x64 : Shape := ⟨3, ![10, 512, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096 : S_.BroadcastsInDim S4096 (![] : Fin 0 → Fin S4096.rank)
  reducesTo_S4096_S_d0 : S4096.ReducesTo [0] S_
  bcast_S_S10x512x64 : S_.BroadcastsInDim S10x512x64 (![] : Fin 0 → Fin S10x512x64.rank)
  reducesTo_S10x512x64_S_d0_1_2 : S10x512x64.ReducesTo [0, 1, 2] S_

variable [Facts]

def fn {F : FTy → Type} [FloatOps F] (main_arg0 : FVec F S4096x64 .f32) (main_arg1 : IVec S4096 32) (main_arg2 : FVec F S10x512x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 10#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_v11 : FVec F S10x512x64 .f32 := Host.absf main_arg2
  let main_cst_3 : FVec F S_ .f32 := constant S_ .f32 0x7F800000#32
  let main_v12 : FVec F S10x512x64 .f32 := broadcastInDim S10x512x64 ![] bcast_S_S10x512x64 main_cst_3
  let main_v13 : IVec S10x512x64 1 := cmpf .olt main_v11 main_v12
  let main_c_4 : IVec S_ 1 := constantI S_ 1 1#1
  let main_v14 : IVec S_ 1 := (fun x v => Host.reduce IntOp.andi x v reducesTo_S10x512x64_S_d0_1_2 h_S_) main_v13 main_c_4
  let main_v15 : IVec S_ 1 := andi main_v10 main_v14
  main_v15
-- ==== Kernel.lean ====
abbrev S4096x64 : Shape := ⟨2, ![4096, 64]⟩
abbrev S4096 : Shape := ⟨1, ![4096]⟩
abbrev S10x512x64 : Shape := ⟨3, ![10, 512, 64]⟩
abbrev S5120x64 : Shape := ⟨2, ![5120, 64]⟩
abbrev S64x5120 : Shape := ⟨2, ![64, 5120]⟩
abbrev S8x1x512 : Shape := ⟨3, ![8, 1, 512]⟩
abbrev S1x1 : Shape := ⟨2, ![1, 1]⟩
abbrev S512x64 : Shape := ⟨2, ![512, 64]⟩
abbrev S1x1x512 : Shape := ⟨3, ![1, 1, 512]⟩
abbrev S512x5120 : Shape := ⟨2, ![512, 5120]⟩
abbrev S512 : Shape := ⟨1, ![512]⟩
abbrev S5120 : Shape := ⟨1, ![5120]⟩
abbrev S512x1 : Shape := ⟨2, ![512, 1]⟩
abbrev S1x5120 : Shape := ⟨2, ![1, 5120]⟩
abbrev S512x512 : Shape := ⟨2, ![512, 512]⟩
abbrev S1x512 : Shape := ⟨2, ![1, 512]⟩
abbrev S1 : Shape := ⟨1, ![1]⟩

abbrev nBuf : Space → Nat
  | .hbm => 7
  | .vmem => 5
  | .smem => 2
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S10x512x64, .f32⟩
  | .hbm, ⟨3, _⟩ => ⟨S5120x64, .f32⟩
  | .hbm, ⟨4, _⟩ => ⟨S64x5120, .f32⟩
  | .hbm, ⟨5, _⟩ => ⟨S8x1x512, .i32⟩
  | .hbm, ⟨6, _⟩ => ⟨S1x1, .f32⟩
  | .local _ .vmem, ⟨0, _⟩ => ⟨S512x64, .f32⟩
  | .local _ .vmem, ⟨1, _⟩ => ⟨S512x64, .f32⟩
  | .local _ .vmem, ⟨2, _⟩ => ⟨S1x1x512, .i32⟩
  | .local _ .vmem, ⟨3, _⟩ => ⟨S1x1x512, .i32⟩
  | .local _ .vmem, ⟨4, _⟩ => ⟨S64x5120, .f32⟩
  | .local _ .smem, ⟨0, _⟩ => ⟨S1x1, .f32⟩
  | .local _ .smem, ⟨1, _⟩ => ⟨S1x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_28 : BitVec 32 := 7#32
  let v81 : BitVec 1 := Scalar.cmpi .eq arg0 c7_i32_28
  let v82 : BitVec 32 := Scalar.extui v81
  let c0_i32_29 : BitVec 32 := 0#32
  let v83 : BitVec 1 := Scalar.cmpi .ne v82 c0_i32_29
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x64 : Shape := ⟨2, ![4096, 64]⟩
abbrev S4096 : Shape := ⟨1, ![4096]⟩
abbrev S10x512x64 : Shape := ⟨3, ![10, 512, 64]⟩
abbrev S_ : Shape := ⟨0, ![]⟩
abbrev S10x512 : Shape := ⟨2, ![10, 512]⟩
abbrev S10x512x4096 : Shape := ⟨3, ![10, 512, 4096]⟩
abbrev S10x4096x512 : Shape := ⟨3, ![10, 4096, 512]⟩
abbrev S1x4096x1 : Shape := ⟨3, ![1, 4096, 1]⟩
abbrev S10x1x512 : Shape := ⟨3, ![10, 1, 512]⟩
abbrev S10x4096 : Shape := ⟨2, ![10, 4096]⟩
abbrev S4096x1 : Shape := ⟨2, ![4096, 1]⟩
abbrev S4096x2 : Shape := ⟨2, ![4096, 2]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S10x512x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S10x512x64, .f32⟩
  | .hbm, ⟨7, _⟩ => ⟨S_, .f32⟩
  | .hbm, ⟨8, _⟩ => ⟨S10x512, .f32⟩
  | .hbm, ⟨9, _⟩ => ⟨S10x512x4096, .f32⟩
  | .hbm, ⟨10, _⟩ => ⟨S10x4096x512, .f32⟩
  | .hbm, ⟨11, _⟩ => ⟨S1x4096x1, .f32⟩
  | .hbm, ⟨12, _⟩ => ⟨S10x1x512, .f32⟩
  | .hbm, ⟨13, _⟩ => ⟨S10x4096x512, .f32⟩
  | .hbm, ⟨14, _⟩ => ⟨S10x4096x512, .f32⟩
  | .hbm, ⟨15, _⟩ => ⟨S10x4096x512, .f32⟩
  | .hbm, ⟨16, _⟩ => ⟨S_, .f32⟩
  | .hbm, ⟨17, _⟩ => ⟨S10x4096x512, .f32⟩
  | .hbm, ⟨18, _⟩ => ⟨S10x4096x512, .f32⟩
  | .hbm, ⟨19, _⟩ => ⟨S10x4096x512, .f32⟩
  | .hbm, ⟨20, _⟩ => ⟨S_, .f32⟩
  | .hbm, ⟨21, _⟩ => ⟨S10x4096x512, .f32⟩
  | .hbm, ⟨22, _⟩ => ⟨S10x4096x512, .f32⟩
  | .hbm, ⟨23, _⟩ => ⟨S10x4096x512, .f32⟩
  | .hbm, ⟨24, _⟩ => ⟨S10x4096x512, .i32⟩
  | .hbm, ⟨25, _⟩ => ⟨S_, .f32⟩
  | .hbm, ⟨26, _⟩ => ⟨S_, .i32⟩
  | .hbm, ⟨27, _⟩ => ⟨S10x4096, .f32⟩
  | .hbm, ⟨28, _⟩ => ⟨S10x4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== TargetLossIdeal.lean ====
abbrev S4096x64 : Shape := ⟨2, ![4096, 64]⟩
abbrev S4096 : Shape := ⟨1, ![4096]⟩
abbrev S10x512x64 : Shape := ⟨3, ![10, 512, 64]⟩
abbrev S5120x64 : Shape := ⟨2, ![5120, 64]⟩
abbrev S64x5120 : Shape := ⟨2, ![64, 5120]⟩
abbrev S8x1x512 : Shape := ⟨3, ![8, 1, 512]⟩
abbrev S1x1 : Shape := ⟨2, ![1, 1]⟩
abbrev S512x64 : Shape := ⟨2, ![512, 64]⟩
abbrev S1x1x512 : Shape := ⟨3, ![1, 1, 512]⟩
abbrev S512x5120 : Shape := ⟨2, ![512, 5120]⟩
abbrev S512 : Shape := ⟨1, ![512]⟩
abbrev S5120 : Shape := ⟨1, ![5120]⟩
abbrev S512x1 : Shape := ⟨2, ![512, 1]⟩
abbrev S1x5120 : Shape := ⟨2, ![1, 5120]⟩
abbrev S512x512 : Shape := ⟨2, ![512, 512]⟩
abbrev S1x512 : Shape := ⟨2, ![1, 512]⟩
abbrev S1 : Shape := ⟨1, ![1]⟩

abbrev nBuf : Space → Nat
  | .hbm => 7
  | .vmem => 5
  | .smem => 2
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S10x512x64, .f32⟩
  | .hbm, ⟨3, _⟩ => ⟨S5120x64, .f32⟩
  | .hbm, ⟨4, _⟩ => ⟨S64x5120, .f32⟩
  | .hbm, ⟨5, _⟩ => ⟨S8x1x512, .i32⟩
  | .hbm, ⟨6, _⟩ => ⟨S1x1, .f32⟩
  | .local _ .vmem, ⟨0, _⟩ => ⟨S512x64, .f32⟩
  | .local _ .vmem, ⟨1, _⟩ => ⟨S512x64, .f32⟩
  | .local _ .vmem, ⟨2, _⟩ => ⟨S1x1x512, .i32⟩
  | .local _ .vmem, ⟨3, _⟩ => ⟨S1x1x512, .i32⟩
  | .local _ .vmem, ⟨4, _⟩ => ⟨S64x5120, .f32⟩
  | .local _ .smem, ⟨0, _⟩ => ⟨S1x1, .f32⟩
  | .local _ .smem, ⟨1, _⟩ => ⟨S1x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_28 : BitVec 32 := 7#32
  let v81 : BitVec 1 := Scalar.cmpi .eq arg0 c7_i32_28
  let v82 : BitVec 32 := Scalar.extui v81
  let c0_i32_29 : BitVec 32 := 0#32
  let v83 : BitVec 1 := Scalar.cmpi .ne v82 c0_i32_29
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== TargetLossReferenceIdeal.lean ====
abbrev S4096x64 : Shape := ⟨2, ![4096, 64]⟩
abbrev S4096 : Shape := ⟨1, ![4096]⟩
abbrev S10x512x64 : Shape := ⟨3, ![10, 512, 64]⟩
abbrev S_ : Shape := ⟨0, ![]⟩
abbrev S10x512 : Shape := ⟨2, ![10, 512]⟩
abbrev S10x512x4096 : Shape := ⟨3, ![10, 512, 4096]⟩
abbrev S10x4096x512 : Shape := ⟨3, ![10, 4096, 512]⟩
abbrev S1x4096x1 : Shape := ⟨3, ![1, 4096, 1]⟩
abbrev S10x1x512 : Shape := ⟨3, ![10, 1, 512]⟩
abbrev S10x4096 : Shape := ⟨2, ![10, 4096]⟩
abbrev S4096x1 : Shape := ⟨2, ![4096, 1]⟩
abbrev S4096x2 : Shape := ⟨2, ![4096, 2]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S10x512x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S10x512x64, .f32⟩
  | .hbm, ⟨7, _⟩ => ⟨S_, .f32⟩
  | .hbm, ⟨8, _⟩ => ⟨S10x512, .f32⟩
  | .hbm, ⟨9, _⟩ => ⟨S10x512x4096, .f32⟩
  | .hbm, ⟨10, _⟩ => ⟨S10x4096x512, .f32⟩
  | .hbm, ⟨11, _⟩ => ⟨S1x4096x1, .f32⟩
  | .hbm, ⟨12, _⟩ => ⟨S10x1x512, .f32⟩
  | .hbm, ⟨13, _⟩ => ⟨S10x4096x512, .f32⟩
  | .hbm, ⟨14, _⟩ => ⟨S10x4096x512, .f32⟩
  | .hbm, ⟨15, _⟩ => ⟨S10x4096x512, .f32⟩
  | .hbm, ⟨16, _⟩ => ⟨S_, .f32⟩
  | .hbm, ⟨17, _⟩ => ⟨S10x4096x512, .f32⟩
  | .hbm, ⟨18, _⟩ => ⟨S10x4096x512, .f32⟩
  | .hbm, ⟨19, _⟩ => ⟨S10x4096x512, .f32⟩
  | .hbm, ⟨20, _⟩ => ⟨S_, .f32⟩
  | .hbm, ⟨21, _⟩ => ⟨S10x4096x512, .f32⟩
  | .hbm, ⟨22, _⟩ => ⟨S10x4096x512, .f32⟩
  | .hbm, ⟨23, _⟩ => ⟨S10x4096x512, .f32⟩
  | .hbm, ⟨24, _⟩ => ⟨S10x4096x512, .i32⟩
  | .hbm, ⟨25, _⟩ => ⟨S_, .f32⟩
  | .hbm, ⟨26, _⟩ => ⟨S_, .i32⟩
  | .hbm, ⟨27, _⟩ => ⟨S10x4096, .f32⟩
  | .hbm, ⟨28, _⟩ => ⟨S10x4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.KernelTerms.lean ====
module

public import proofs.«01_k».proof.Proof.Gen.KernelIdeal.Skeleton
public import Idealize.ShloMosaic.Lib.Pointwise

/-!
# The kernel as terms

What the kernel's grid points read of the three arguments, what one point adds to the running total, and the running
total point by point. The runs of the two kernels (`KernelRun`, `TargetKernelRun`) end at these terms.
-/

@[expose] public section

noncomputable section

namespace Cert.KernelTerms

open Cert.KernelIdeal Cert.KernelIdeal.Gen Idealize.ShloMosaic Idealize.ShloMosaic.Pointwise

variable {F : FTy → Type} [FloatOps F]

/-- The 512 samples of grid point `t`. -/
def samples (x : Vec F S4096x64 .f32) (t : Fin 8) : Vec F S512x64 .f32 :=
  fun j => x (ix2 ⟨512 * t.val + (j 0).val, by have := t.isLt; have : (j 0).val < 512 := (j 0).isLt; omega⟩ (j 1))

/-- The classes of the 512 samples of grid point `t`. -/
def classes (tc : Vec F S4096 .i32) (t : Fin 8) : Vec F S1x1x512 .i32 :=
  fun j => tc (ix1 ⟨512 * t.val + (j 2).val, by have := t.isLt; have : (j 2).val < 512 := (j 2).isLt; omega⟩)

/-- The prototypes of all classes, one a column. -/
def columns (cl : Vec F S10x512x64 .f32) : Vec F S64x5120 .f32 :=
  transpose S64x5120 [1, 0] (shapeCast S5120x64 cl shapeCasts_S10x512x64_S5120x64) transposes_S5120x64_S64x5120_1_0

/-- What one grid point makes of the running total `a`: the block's selected minima summed onto it. -/
def step (x : Vec F S512x64 .f32) (tc : Vec F S1x1x512 .i32) (ct : Vec F S64x5120 .f32) (a : F .f32) : F .f32 :=
  k0_pay7 (k0_pay2 x ct) (k0_pay3 tc) (k0_pay4 x ct tc) (k0_pay5 x ct) k0_pay6 a

/-- The running total after grid point `n`, from zero before point 0. -/
def running (x : Vec F S4096x64 .f32) (tc : Vec F S4096 .i32) (cl : Vec F S10x512x64 .f32) : (n : ℕ) → n < 8 → F .f32
  | 0, h => step (samples x ⟨0, h⟩) (classes tc ⟨0, h⟩) (columns cl) (Scalar.ofBits .f32 0x00000000#32)
  | n + 1, h => step (samples x ⟨n + 1, h⟩) (classes tc ⟨n + 1, h⟩) (columns cl) (running x tc cl n (Nat.lt_of_succ_lt h))

end Cert.KernelTerms

end
-- ==== Proof.KernelRun.lean ====
module

public import proofs.«01_k».proof.Proof.KernelTerms
public import proofs.«01_k».proof.Proof.Gen.KernelIdeal.Value
public import Idealize.ShloMosaic.Lib.Pipeline.Value
public import Idealize.ShloMosaic.Lib.StableHlo.Run
public import Idealize.ShloMosaic.Lib.Tactic

/-!
# The run of the kernel

The generated run leaves the result array as what the grid's last point wrote. Here the contents of the carried
scratch are read point by point as the running total of `KernelTerms`, and the result as a function of the last total.
-/

@[expose] public section

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.Pointwise
open Idealize.ShloMosaic.Pipeline (Dat)
open Cert.KernelTerms (samples classes columns step running)

variable {F : FTy → Type} [FloatOps F]

/-- The offsets of a load or store of a whole two-axis buffer are zero. -/
theorem zeros2 : (![0, 0] : Fin 2 → Nat) = fun _ => 0 := funext fun a => by fin_cases a <;> rfl

/-- The offsets of a load of a whole three-axis buffer are zero. -/
theorem zeros3 : (![0, 0, 0] : Fin 3 → Nat) = fun _ => 0 := funext fun a => by fin_cases a <;> rfl

/-! ## What each case of the body leaves -/

section Cases

variable (c : Dev nD) (i : grid0.Coords) (arg1 : Memref sig .tc .vmem S512x64 .f32) (harg1 : arg1.IsWhole)
  (arg2 : Memref sig .tc .vmem S1x1x512 .i32) (harg2 : arg2.IsWhole)
  (arg3 : Memref sig .tc .vmem S64x5120 .f32) (harg3 : arg3.IsWhole)
  (arg4 : Memref sig .tc .smem S1x1 .f32) (harg4 : arg4.IsWhole)
  (arg5 : Memref sig .tc .smem S1x1 .f32) (harg5 : arg5.IsWhole)
  (x0 : Vec F S512x64 .f32) (x1 : Vec F S1x1x512 .i32) (x2 : Vec F S64x5120 .f32) (a : F .f32)

/-- The first point resets the scratch, so it ends with one step from zero. -/
theorem scratch_first (hc0 : cond0_0 i) (hc1 : ¬cond0_1 i) :
    sout0_A_0 c i arg1 harg1 arg2 harg2 arg3 harg3 arg4 harg4 arg5 harg5 hc0 hc1 x0 x1 x2
      = fun _ => step x0 x1 x2 (Scalar.ofBits .f32 0x00000000#32) := by
  unfold sout0_A_0
  rw [View.read_writes_eq_canon _ _ _
    (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

/-- A middle point takes the scratch one step further. -/
theorem scratch_middle (hc0 : ¬cond0_0 i) (hc1 : ¬cond0_1 i) :
    sout0_B_0 c i arg1 harg1 arg2 harg2 arg3 harg3 arg4 harg4 arg5 harg5 hc0 hc1 x0 x1 x2 (fun _ => a)
      = fun _ => step x0 x1 x2 a := by
  unfold sout0_B_0
  rw [View.read_writes_eq_canon _ _ _
    (scover0_B_0 c i arg1 harg1 arg2 harg2 arg3 harg3 arg4 harg4 arg5 harg5 hc0 hc1 x0 x1 x2 (fun _ => a))]
  unfold kernelRun0_B
  dsimp only
  sl_unfold_words
  rw [View.canon_unit_zero zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

/-- The last point takes the scratch one step further and writes the loss of it. -/
theorem result_last (hc0 : ¬cond0_0 i) (hc1 : cond0_1 i) :
    out0_C_3 c i arg1 harg1 arg2 harg2 arg3 harg3 arg4 harg4 arg5 harg5 hc0 hc1 x0 x1 x2 (fun _ => a)
      = fun _ => k0_pay1 (step x0 x1 x2 a) := by
  unfold out0_C_3
  rw [View.read_writes_eq_canon _ _ _
    (cover0_C_3 c i arg1 harg1 arg2 harg2 arg3 harg3 arg4 harg4 arg5 harg5 hc0 hc1 x0 x1 x2 (fun _ => a))]
  unfold kernelRun0_C
  dsimp only
  sl_unfold_words
  rw [View.canon_unit_zero zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

end Cases

variable (m : (ℓ : Loc nD τ sig) → Buf (Elt F) ℓ) (ρ : Dev nD → PrngReg) (c : Dev nD)

/-! ## What each point reads -/

/-- The host hands the region the prototypes as columns. -/
theorem entry_columns : V m c main_v1 = columns (m ((c.tc : Thread nD τ).loc main_arg2)) := by
  unfold V
  after_results_simp
  rfl

/-- The host hands the region the classes in eight rows. -/
theorem entry_classes : V m c main_v2
    = shapeCast S8x1x512 (m ((c.tc : Thread nD τ).loc main_arg1)) shapeCasts_S4096_S8x1x512 := by
  unfold V
  after_results_simp
  rfl

/-- Point `t` reads its own 512 samples. -/
theorem block_samples (t : Fin cfg0.N) :
    (iblk m c 0 t : Vec F S512x64 .f32) = samples (m ((c.tc : Thread nD τ).loc main_arg0)) (t.cast N_0) := by
  have hi : win0_0.index t 0 = t.val ∧ win0_0.index t 1 = 0 := by
    rcases fin_N0 t with rfl | rfl | rfl | rfl | rfl | rfl | rfl | rfl <;> decide
  funext j
  unfold iblk samples
  rw [View.read_apply]
  show V m c main_arg0 _ = m ((c.tc : Thread nD τ).loc main_arg0) _
  rw [V_main_arg0]
  congr 1
  funext b
  apply Fin.ext
  match b with
  | ⟨0, _⟩ => show win0_0.index t 0 * 512 + 1 * (j 0).val = 512 * t.val + (j 0).val; rw [hi.1]; omega
  | ⟨1, _⟩ => show win0_0.index t 1 * 64 + 1 * (j 1).val = (j 1).val; rw [hi.2]; omega

/-- Point `t` reads its own samples' classes. -/
theorem block_classes (t : Fin cfg0.N) :
    (iblk m c 1 t : Vec F S1x1x512 .i32) = classes (m ((c.tc : Thread nD τ).loc main_arg1)) (t.cast N_0) := by
  have hi : win0_1.index t 0 = t.val ∧ win0_1.index t 1 = 0 ∧ win0_1.index t 2 = 0 := by
    rcases fin_N0 t with rfl | rfl | rfl | rfl | rfl | rfl | rfl | rfl <;> decide
  have hN : cfg0.N = 8 := N_0
  funext j
  unfold iblk classes
  rw [View.read_apply]
  show V m c main_v2 _ = m ((c.tc : Thread nD τ).loc main_arg1) _
  have e : ∀ k : S8x1x512.Idx, k = ix3 (t.cast N_0) 0 (j 2) →
      V m c main_v2 k = m ((c.tc : Thread nD τ).loc main_arg1)
        (ix1 ⟨512 * t.val + (j 2).val, by have := t.isLt; have : (j 2).val < 512 := (j 2).isLt; omega⟩) := by
    rintro k rfl
    rw [entry_classes]
    have h2 : (j 2).val < 512 := (j 2).isLt
    have := t.isLt
    pointwise []
    congr 2
    exact Fin.ext (by dsimp only; omega)
  refine e _ (funext fun b => Fin.ext ?_)
  match b with
  | ⟨0, _⟩ => show win0_1.index t 0 * 1 + 1 * (j 0).val = t.val; rw [hi.1]; have : (j 0).val < 1 := (j 0).isLt; omega
  | ⟨1, _⟩ => show win0_1.index t 1 * 1 + 1 * (j 1).val = 0; rw [hi.2.1]; have : (j 1).val < 1 := (j 1).isLt; omega
  | ⟨2, _⟩ => show win0_1.index t 2 * 512 + 1 * (j 2).val = (j 2).val; rw [hi.2.2]; omega

/-- Every point reads all the columns. -/
theorem block_columns (t : Fin cfg0.N) :
    (iblk m c 2 t : Vec F S64x5120 .f32) = columns (m ((c.tc : Thread nD τ).loc main_arg2)) := by
  have hi : win0_2.index t 0 = 0 ∧ win0_2.index t 1 = 0 := by
    rcases fin_N0 t with rfl | rfl | rfl | rfl | rfl | rfl | rfl | rfl <;> decide
  rw [← entry_columns m c]
  funext j
  unfold iblk
  rw [View.read_apply]
  show V m c main_v1 _ = V m c main_v1 _
  congr 1
  funext b
  apply Fin.ext
  match b with
  | ⟨0, _⟩ => show win0_2.index t 0 * 64 + 1 * (j 0).val = (j 0).val; rw [hi.1]; omega
  | ⟨1, _⟩ => show win0_2.index t 1 * 5120 + 1 * (j 1).val = (j 1).val; rw [hi.2]; omega

/-! ## The scratch and the result -/

/-- The running total of the launch contents. -/
abbrev totalAt (n : ℕ) (h : n < 8) : F .f32 :=
  running (m ((c.tc : Thread nD τ).loc main_arg0)) (m ((c.tc : Thread nD τ).loc main_arg1))
    (m ((c.tc : Thread nD τ).loc main_arg2)) n h

/-- After every point but the last the scratch holds the running total. -/
theorem scratch_total : ∀ (n : ℕ) (h : n < cfg0.N) (h7 : n < 7), (outsAt0 m c n h).2 = fun _ => totalAt m c n (by omega)
  | 0, h, _ => by
    rw [outsAt0_A m c ⟨0, h⟩ rfl (by dsimp only; omega)]
    dsimp only
    rw [scratch_first, block_samples, block_classes, block_columns]
    rfl
  | n + 1, h, h7 => by
    rw [outsAt0_B m c ⟨n + 1, h⟩ (by dsimp only; omega) (by dsimp only; omega)]
    dsimp only
    have ih := scratch_total n (Nat.lt_of_succ_lt h) (by omega)
    simp only [Nat.add_sub_cancel]
    rw [ih, scratch_middle, block_samples, block_classes, block_columns]
    rfl

/-- The loss of the last total, as contents of the result array. -/
abbrev result : Buf (Elt F) ((c.tc : Thread nD τ).loc main_v3) := fun _ => k0_pay1 (totalAt m c 7 (by decide))

/-- What the last point leaves for the result. -/
theorem last_result (h : 7 < cfg0.N) : (outsAt0 m c 7 h).1 = result m c := by
  rw [outsAt0_C m c ⟨7, h⟩ (by dsimp only; omega) rfl]
  dsimp only
  have ih := scratch_total m c 6 (by rw [show cfg0.N = 8 from N_0]; decide) (by decide)
  simp only [Nat.add_sub_cancel, show 7 - 1 = 6 from rfl]
  rw [ih, result_last, block_samples, block_classes, block_columns]
  rfl

/-- The one write-back, at the last point, writes the loss. -/
theorem flushed_result (t : Fin cfg0.N) (hf : (cfg0.win 3).flush t = true) :
    (dats m 0 c).flushed 3 t = ((cfg0.win 3).blk t).view.read (Elt F) (result m c) := by
  have hN : cfg0.N = 8 := N_0
  have h7 : t.val = 7 := by have := (flush0_3 t).mp hf; have := t.isLt; omega
  obtain rfl : t = t0_7 := Fin.ext h7
  rw [Cert.KernelIdeal.Value.flushed3]
  rw [show (outsAt0 m c t0_7.val t0_7.isLt).1 = result m c from last_result m c t0_7.isLt]
  rfl

/-- So the result array ends at the loss. -/
theorem final_result : (dats m 0 c).arrAt 3 cfg0.N = result m c :=
  (dats m 0 c).arrAt_eq_of_cover 3 (result m c) (flushed_result m c) fun i =>
    ⟨t0_7, (flush0_3 t0_7).mpr rfl, by
      show i ∈ ((View.whole main_v3).slice (win0_3.rect t0_7)).set
      rw [View.set_slice_whole, Rect.mem_set_unit]
      intro b
      match b with
      | ⟨0, _⟩ =>
        have h0 : (i 0 : Nat) < 1 := (i 0).isLt
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 1 from by decide +kernel]
        omega
      | ⟨1, _⟩ =>
        have h1 : (i 1 : Nat) < 1 := (i 1).isLt
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 1 from by decide +kernel]
        omega⟩

/-- From any memory with zero counters every weakly fair execution ends with the result array at the loss of the
    last running total, and with the arguments unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_result m c), (h c).2⟩)
    (Cert.KernelIdeal.Value.run_blocks m ρ)

end Cert.KernelIdeal.Run

end
-- ==== Proof.TargetKernelRun.lean ====
module

public import proofs.«01_k».proof.Proof.KernelTerms
public import proofs.«01_k».proof.Proof.Gen.TargetLossIdeal.Value
public import Idealize.ShloMosaic.Lib.Pipeline.Value
public import Idealize.ShloMosaic.Lib.StableHlo.Run
public import Idealize.ShloMosaic.Lib.Tactic

/-!
# The run of the kernel at weights one and zero

The generated run leaves the result array as what the grid's last point wrote. Here the contents of the carried
scratch are read point by point as the running total of `KernelTerms`, and the result as a function of the last total.
-/

@[expose] public section

noncomputable section

namespace Cert.TargetLossIdeal.Run

open Cert.TargetLossIdeal Cert.TargetLossIdeal.Gen Idealize.ShloMosaic Idealize.ShloMosaic.TcCoe Idealize.SL.Sem
open Idealize.ShloMosaic.StableHlo Idealize.ShloMosaic.Pointwise
open Idealize.ShloMosaic.Pipeline (Dat)
open Cert.KernelTerms (samples classes columns step running)

variable {F : FTy → Type} [FloatOps F]

/-- The offsets of a load or store of a whole two-axis buffer are zero. -/
theorem zeros2 : (![0, 0] : Fin 2 → Nat) = fun _ => 0 := funext fun a => by fin_cases a <;> rfl

/-- The offsets of a load of a whole three-axis buffer are zero. -/
theorem zeros3 : (![0, 0, 0] : Fin 3 → Nat) = fun _ => 0 := funext fun a => by fin_cases a <;> rfl

/-! ## What each case of the body leaves -/

section Cases

variable (c : Dev nD) (i : grid0.Coords) (arg1 : Memref sig .tc .vmem S512x64 .f32) (harg1 : arg1.IsWhole)
  (arg2 : Memref sig .tc .vmem S1x1x512 .i32) (harg2 : arg2.IsWhole)
  (arg3 : Memref sig .tc .vmem S64x5120 .f32) (harg3 : arg3.IsWhole)
  (arg4 : Memref sig .tc .smem S1x1 .f32) (harg4 : arg4.IsWhole)
  (arg5 : Memref sig .tc .smem S1x1 .f32) (harg5 : arg5.IsWhole)
  (x0 : Vec F S512x64 .f32) (x1 : Vec F S1x1x512 .i32) (x2 : Vec F S64x5120 .f32) (a : F .f32)

/-- The first point resets the scratch, so it ends with one step from zero. -/
theorem scratch_first (hc0 : cond0_0 i) (hc1 : ¬cond0_1 i) :
    sout0_A_0 c i arg1 harg1 arg2 harg2 arg3 harg3 arg4 harg4 arg5 harg5 hc0 hc1 x0 x1 x2
      = fun _ => step x0 x1 x2 (Scalar.ofBits .f32 0x00000000#32) := by
  unfold sout0_A_0
  rw [View.read_writes_eq_canon _ _ _
    (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

/-- A middle point takes the scratch one step further. -/
theorem scratch_middle (hc0 : ¬cond0_0 i) (hc1 : ¬cond0_1 i) :
    sout0_B_0 c i arg1 harg1 arg2 harg2 arg3 harg3 arg4 harg4 arg5 harg5 hc0 hc1 x0 x1 x2 (fun _ => a)
      = fun _ => step x0 x1 x2 a := by
  unfold sout0_B_0
  rw [View.read_writes_eq_canon _ _ _
    (scover0_B_0 c i arg1 harg1 arg2 harg2 arg3 harg3 arg4 harg4 arg5 harg5 hc0 hc1 x0 x1 x2 (fun _ => a))]
  unfold kernelRun0_B
  dsimp only
  sl_unfold_words
  rw [View.canon_unit_zero zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

/-- The last point takes the scratch one step further and writes the loss of it. -/
theorem result_last (hc0 : ¬cond0_0 i) (hc1 : cond0_1 i) :
    out0_C_3 c i arg1 harg1 arg2 harg2 arg3 harg3 arg4 harg4 arg5 harg5 hc0 hc1 x0 x1 x2 (fun _ => a)
      = fun _ => k0_pay1 (step x0 x1 x2 a) := by
  unfold out0_C_3
  rw [View.read_writes_eq_canon _ _ _
    (cover0_C_3 c i arg1 harg1 arg2 harg2 arg3 harg3 arg4 harg4 arg5 harg5 hc0 hc1 x0 x1 x2 (fun _ => a))]
  unfold kernelRun0_C
  dsimp only
  sl_unfold_words
  rw [View.canon_unit_zero zeros2]
  simp only [View.readAt_eq_ld, harg1.read_unread, harg2.read_unread, harg3.read_unread, harg5.read_unread,
    View.ld_unit_zero (S := S512x64) zeros2, View.ld_unit_zero (S := S1x1x512) zeros3,
    View.ld_unit_zero (S := S64x5120) zeros2]
  rfl

end Cases

variable (m : (ℓ : Loc nD τ sig) → Buf (Elt F) ℓ) (ρ : Dev nD → PrngReg) (c : Dev nD)

/-! ## What each point reads -/

/-- The host hands the region the prototypes as columns. -/
theorem entry_columns : V m c main_v1 = columns (m ((c.tc : Thread nD τ).loc main_arg2)) := by
  unfold V
  after_results_simp
  rfl

/-- The host hands the region the classes in eight rows. -/
theorem entry_classes : V m c main_v2
    = shapeCast S8x1x512 (m ((c.tc : Thread nD τ).loc main_arg1)) shapeCasts_S4096_S8x1x512 := by
  unfold V
  after_results_simp
  rfl

/-- Point `t` reads its own 512 samples. -/
theorem block_samples (t : Fin cfg0.N) :
    (iblk m c 0 t : Vec F S512x64 .f32) = samples (m ((c.tc : Thread nD τ).loc main_arg0)) (t.cast N_0) := by
  have hi : win0_0.index t 0 = t.val ∧ win0_0.index t 1 = 0 := by
    rcases fin_N0 t with rfl | rfl | rfl | rfl | rfl | rfl | rfl | rfl <;> decide
  funext j
  unfold iblk samples
  rw [View.read_apply]
  show V m c main_arg0 _ = m ((c.tc : Thread nD τ).loc main_arg0) _
  rw [V_main_arg0]
  congr 1
  funext b
  apply Fin.ext
  match b with
  | ⟨0, _⟩ => show win0_0.index t 0 * 512 + 1 * (j 0).val = 512 * t.val + (j 0).val; rw [hi.1]; omega
  | ⟨1, _⟩ => show win0_0.index t 1 * 64 + 1 * (j 1).val = (j 1).val; rw [hi.2]; omega

/-- Point `t` reads its own samples' classes. -/
theorem block_classes (t : Fin cfg0.N) :
    (iblk m c 1 t : Vec F S1x1x512 .i32) = classes (m ((c.tc : Thread nD τ).loc main_arg1)) (t.cast N_0) := by
  have hi : win0_1.index t 0 = t.val ∧ win0_1.index t 1 = 0 ∧ win0_1.index t 2 = 0 := by
    rcases fin_N0 t with rfl | rfl | rfl | rfl | rfl | rfl | rfl | rfl <;> decide
  have hN : cfg0.N = 8 := N_0
  funext j
  unfold iblk classes
  rw [View.read_apply]
  show V m c main_v2 _ = m ((c.tc : Thread nD τ).loc main_arg1) _
  have e : ∀ k : S8x1x512.Idx, k = ix3 (t.cast N_0) 0 (j 2) →
      V m c main_v2 k = m ((c.tc : Thread nD τ).loc main_arg1)
        (ix1 ⟨512 * t.val + (j 2).val, by have := t.isLt; have : (j 2).val < 512 := (j 2).isLt; omega⟩) := by
    rintro k rfl
    rw [entry_classes]
    have h2 : (j 2).val < 512 := (j 2).isLt
    have := t.isLt
    pointwise []
    congr 2
    exact Fin.ext (by dsimp only; omega)
  refine e _ (funext fun b => Fin.ext ?_)
  match b with
  | ⟨0, _⟩ => show win0_1.index t 0 * 1 + 1 * (j 0).val = t.val; rw [hi.1]; have : (j 0).val < 1 := (j 0).isLt; omega
  | ⟨1, _⟩ => show win0_1.index t 1 * 1 + 1 * (j 1).val = 0; rw [hi.2.1]; have : (j 1).val < 1 := (j 1).isLt; omega
  | ⟨2, _⟩ => show win0_1.index t 2 * 512 + 1 * (j 2).val = (j 2).val; rw [hi.2.2]; omega

/-- Every point reads all the columns. -/
theorem block_columns (t : Fin cfg0.N) :
    (iblk m c 2 t : Vec F S64x5120 .f32) = columns (m ((c.tc : Thread nD τ).loc main_arg2)) := by
  have hi : win0_2.index t 0 = 0 ∧ win0_2.index t 1 = 0 := by
    rcases fin_N0 t with rfl | rfl | rfl | rfl | rfl | rfl | rfl | rfl <;> decide
  rw [← entry_columns m c]
  funext j
  unfold iblk
  rw [View.read_apply]
  show V m c main_v1 _ = V m c main_v1 _
  congr 1
  funext b
  apply Fin.ext
  match b with
  | ⟨0, _⟩ => show win0_2.index t 0 * 64 + 1 * (j 0).val = (j 0).val; rw [hi.1]; omega
  | ⟨1, _⟩ => show win0_2.index t 1 * 5120 + 1 * (j 1).val = (j 1).val; rw [hi.2]; omega

/-! ## The scratch and the result -/

/-- The running total of the launch contents. -/
abbrev totalAt (n : ℕ) (h : n < 8) : F .f32 :=
  running (m ((c.tc : Thread nD τ).loc main_arg0)) (m ((c.tc : Thread nD τ).loc main_arg1))
    (m ((c.tc : Thread nD τ).loc main_arg2)) n h

/-- After every point but the last the scratch holds the running total. -/
theorem scratch_total : ∀ (n : ℕ) (h : n < cfg0.N) (h7 : n < 7), (outsAt0 m c n h).2 = fun _ => totalAt m c n (by omega)
  | 0, h, _ => by
    rw [outsAt0_A m c ⟨0, h⟩ rfl (by dsimp only; omega)]
    dsimp only
    rw [scratch_first, block_samples, block_classes, block_columns]
    rfl
  | n + 1, h, h7 => by
    rw [outsAt0_B m c ⟨n + 1, h⟩ (by dsimp only; omega) (by dsimp only; omega)]
    dsimp only
    have ih := scratch_total n (Nat.lt_of_succ_lt h) (by omega)
    simp only [Nat.add_sub_cancel]
    rw [ih, scratch_middle, block_samples, block_classes, block_columns]
    rfl

/-- The loss of the last total, as contents of the result array. -/
abbrev result : Buf (Elt F) ((c.tc : Thread nD τ).loc main_v3) := fun _ => k0_pay1 (totalAt m c 7 (by decide))

/-- What the last point leaves for the result. -/
theorem last_result (h : 7 < cfg0.N) : (outsAt0 m c 7 h).1 = result m c := by
  rw [outsAt0_C m c ⟨7, h⟩ (by dsimp only; omega) rfl]
  dsimp only
  have ih := scratch_total m c 6 (by rw [show cfg0.N = 8 from N_0]; decide) (by decide)
  simp only [Nat.add_sub_cancel, show 7 - 1 = 6 from rfl]
  rw [ih, result_last, block_samples, block_classes, block_columns]
  rfl

/-- The one write-back, at the last point, writes the loss. -/
theorem flushed_result (t : Fin cfg0.N) (hf : (cfg0.win 3).flush t = true) :
    (dats m 0 c).flushed 3 t = ((cfg0.win 3).blk t).view.read (Elt F) (result m c) := by
  have hN : cfg0.N = 8 := N_0
  have h7 : t.val = 7 := by have := (flush0_3 t).mp hf; have := t.isLt; omega
  obtain rfl : t = t0_7 := Fin.ext h7
  rw [Cert.TargetLossIdeal.Value.flushed3]
  rw [show (outsAt0 m c t0_7.val t0_7.isLt).1 = result m c from last_result m c t0_7.isLt]
  rfl

/-- So the result array ends at the loss. -/
theorem final_result : (dats m 0 c).arrAt 3 cfg0.N = result m c :=
  (dats m 0 c).arrAt_eq_of_cover 3 (result m c) (flushed_result m c) fun i =>
    ⟨t0_7, (flush0_3 t0_7).mpr rfl, by
      show i ∈ ((View.whole main_v3).slice (win0_3.rect t0_7)).set
      rw [View.set_slice_whole, Rect.mem_set_unit]
      intro b
      match b with
      | ⟨0, _⟩ =>
        have h0 : (i 0 : Nat) < 1 := (i 0).isLt
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 1 from by decide +kernel]
        omega
      | ⟨1, _⟩ =>
        have h1 : (i 1 : Nat) < 1 := (i 1).isLt
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 1 from by decide +kernel]
        omega⟩

/-- From any memory with zero counters every weakly fair execution ends with the result array at the loss of the
    last running total, and with the arguments unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_result m c), (h c).2⟩)
    (Cert.TargetLossIdeal.Value.run_blocks m ρ)

end Cert.TargetLossIdeal.Run

end
-- ==== Proof.ReferenceTerms.lean ====
module

public import proofs.«01_k».proof.ReferenceIdeal
public import proofs.«01_k».proof.Proof.Gen.ReferenceIdeal

/-!
# The reference as terms

The stages of the reference, each as one named term of its operands: the distances, the nearest prototype of every
class, its index for the sample's own class, the row of that prototype, the mean squared difference, and the weighted
loss. The runs of the two references (`ReferenceRun`, `TargetReferenceRun`) end at these terms.
-/

@[expose] public section

noncomputable section

namespace Cert.ReferenceTerms

open Cert.ReferenceIdeal Cert.ReferenceIdeal.Gen Idealize.ShloMosaic

variable {F : FTy → Type} [FloatOps F]

/-- Squared norms of the samples plus squared norms of the prototypes less twice their products. -/
def squared (x : FVec F S4096x64 .f32) (cl : FVec F S10x512x64 .f32) : FVec F S10x4096x512 .f32 :=
  subf
    (addf
      (broadcastInDim S10x4096x512 ![0, 1, 2] bcast_S1x4096x1_S10x4096x512_0_1_2
        (broadcastInDim S1x4096x1 ![1] bcast_S4096_S1x4096x1_1
          (Host.reduceAdd (mulf x x) (constant S_ .f32 0x00000000#32) reducesTo_S4096x64_S4096_d1 h_S_)))
      (broadcastInDim S10x4096x512 ![0, 1, 2] bcast_S10x1x512_S10x4096x512_0_1_2
        (broadcastInDim S10x1x512 ![0, 2] bcast_S10x512_S10x1x512_0_2
          (Host.reduceAdd (mulf cl cl) (constant S_ .f32 0x00000000#32) reducesTo_S10x512x64_S10x512_d2 h_S_))))
    (mulf (broadcastInDim S10x4096x512 ![] bcast_S_S10x4096x512 (constant S_ .f32 0x40000000#32))
      (transpose S10x4096x512 [0, 2, 1] (Host.dotGeneral dot_S10x512x64_S4096x64_S10x512x4096_2_1_01_0_n_n none cl x)
        transposes_S10x512x4096_S10x4096x512_0_2_1))

/-- The distances: the root of the squared distances, held above zero. -/
def distances (x : FVec F S4096x64 .f32) (cl : FVec F S10x512x64 .f32) : FVec F S10x4096x512 .f32 :=
  Host.sqrt (maximumf (squared x cl)
    (broadcastInDim S10x4096x512 ![] bcast_S_S10x4096x512 (constant S_ .f32 0x00000000#32)))

/-- The index of the nearest prototype of each class, for each sample. -/
def nearest (d : FVec F S10x4096x512 .f32) : IVec S10x4096 32 := fun j =>
  (Host.argReduce reducer_argmin_f32_i32 d (iotaInDim S10x4096x512 32 2) (constant S_ .f32 0x7F800000#32)
    (constantI S_ 32 0#32) reducesTo_S10x4096x512_S10x4096_d2 h_S_ j).2

/-- Indices with the negative ones counted from the end of an axis of `n`. -/
def wrapped (n : BitVec 32) (i : IVec S4096 32) : IVec S4096 32 :=
  select (cmpi .slt i (broadcastInDim S4096 ![] bcast_S_S4096 (constantI S_ 32 0#32)))
    (addi i (broadcastInDim S4096 ![] bcast_S_S4096 (constantI S_ 32 n))) i

/-- Two columns of indices side by side. -/
def joined : (⟨S4096x1, .i32⟩ : BufTy).Contents (Elt F) → (⟨S4096x1, .i32⟩ : BufTy).Contents (Elt F) →
    (⟨S4096x2, .i32⟩ : BufTy).Contents (Elt F) :=
  fun a b => concatenate S4096x2 1 [⟨S4096x1, a⟩, ⟨S4096x1, b⟩] concatenates_S4096x1_S4096x1_S4096x2_d1

/-- The index pairs a gather reads by. -/
def pairs (i j : IVec S4096 32) : IVec S4096x2 32 :=
  joined (F := F) (broadcastInDim S4096x1 ![0] bcast_S4096_S4096x1_0 i) (broadcastInDim S4096x1 ![0] bcast_S4096_S4096x1_0 j)

/-- The index of the nearest prototype of each sample's own class. -/
def ownNearest (tc : IVec S4096 32) (near : IVec S10x4096 32) : IVec S4096 32 :=
  Host.gather gather_S10x4096_S4096x2_S4096_n_01_n_n_01_1_11 near
    (pairs (F := F) (wrapped 10#32 tc) (wrapped 4096#32 (iotaInDim S4096 32 0)))

/-- Each sample's prototype: the row of the sample's own class at the index found. -/
def ownPrototype (cl : FVec F S10x512x64 .f32) (tc p : IVec S4096 32) : FVec F S4096x64 .f32 :=
  Host.gather gather_S10x512x64_S4096x2_S4096x64_1_01_n_n_01_1_1164 cl
    (pairs (F := F) (wrapped 10#32 tc) (wrapped 512#32 p))

/-- The mean of the squared differences of two arrays. -/
def meanSquare (x y : FVec F S4096x64 .f32) : FVec F S_ .f32 :=
  Host.divf (Host.reduceAdd (mulf (subf x y) (subf x y)) (constant S_ .f32 0x00000000#32) reducesTo_S4096x64_S_d0_1 h_S_)
    (constant S_ .f32 0x48800000#32)

/-- The two weights (by their bits) on `t` and on `1 - t`. -/
def weighted (a b : BitVec 32) (t : FVec F S_ .f32) : FVec F S1x1 .f32 :=
  shapeCast S1x1
    (addf (mulf (constant S_ .f32 a) t) (mulf (constant S_ .f32 b) (subf (constant S_ .f32 0x3F800000#32) t)))
    shapeCasts_S_S1x1

/-- The reference's loss of its three arguments, at two weights. -/
def loss (a b : BitVec 32) (x : FVec F S4096x64 .f32) (tc : IVec S4096 32) (cl : FVec F S10x512x64 .f32) :
    FVec F S1x1 .f32 :=
  weighted a b (meanSquare x (ownPrototype cl tc (ownNearest (F := F) tc (nearest (distances x cl)))))

end Cert.ReferenceTerms

end
-- ==== Proof.ReferenceRun.lean ====
module

public import proofs.«01_k».proof.Proof.ReferenceTerms
public import proofs.«01_k».proof.ReferenceIdeal
public import proofs.«01_k».proof.Proof.Gen.ReferenceIdeal
public import Idealize.ShloMosaic.Lib.StableHlo.Run

/-!
# The run of the reference

The program is one line of host operations. It is cut here into five stretches — the distances, the nearest
prototype of every class, its index for the sample's own class, that prototype's row, and the loss — and each
stretch is read back on its own, at the terms of `ReferenceTerms`.
-/

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo
open Cert.ReferenceTerms

variable {F : FTy → Type} [FloatOps F]

/-- The operations of the distances of every sample to every prototype. -/
abbrev opsDist : List (HloOp τ sig (Elt F)) :=
  [ binary main_arg0 main_arg0 main_v0 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v0 main_cst main_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_arg2 main_arg2 main_v2 (mulf : (⟨S10x512x64, .f32⟩ : BufTy).Contents (Elt F) → (⟨S10x512x64, .f32⟩ : BufTy).Contents (Elt F) → (⟨S10x512x64, .f32⟩ : BufTy).Contents (Elt F)),
    nullary main_cst_0 (constant S_ .f32 0x00000000#32),
    binary main_v2 main_cst_0 main_v3 ((fun x v => Host.reduceAdd x v reducesTo_S10x512x64_S10x512_d2 h_S_) : (⟨S10x512x64, .f32⟩ : BufTy).Contents (Elt F) → (⟨S_, .f32⟩ : BufTy).Contents (Elt F) → (⟨S10x512, .f32⟩ : BufTy).Contents (Elt F)),
    binary main_arg2 main_arg0 main_v4 ((fun l r => Host.dotGeneral dot_S10x512x64_S4096x64_S10x512x4096_2_1_01_0_n_n none l r) : (⟨S10x512x64, .f32⟩ : BufTy).Contents (Elt F) → (⟨S4096x64, .f32⟩ : BufTy).Contents (Elt F) → (⟨S10x512x4096, .f32⟩ : BufTy).Contents (Elt F)),
    unary main_v4 main_v5 ((transpose S10x4096x512 [0, 2, 1] · transposes_S10x512x4096_S10x4096x512_0_2_1) : (⟨S10x512x4096, .f32⟩ : BufTy).Contents (Elt F) → (⟨S10x4096x512, .f32⟩ : BufTy).Contents (Elt F)),
    unary main_v1 main_v6 (broadcastInDim S1x4096x1 ![1] bcast_S4096_S1x4096x1_1 : (⟨S4096, .f32⟩ : BufTy).Contents (Elt F) → (⟨S1x4096x1, .f32⟩ : BufTy).Contents (Elt F)),
    unary main_v3 main_v7 (broadcastInDim S10x1x512 ![0, 2] bcast_S10x512_S10x1x512_0_2 : (⟨S10x512, .f32⟩ : BufTy).Contents (Elt F) → (⟨S10x1x512, .f32⟩ : BufTy).Contents (Elt F)),
    unary main_v6 main_v8 (broadcastInDim S10x4096x512 ![0, 1, 2] bcast_S1x4096x1_S10x4096x512_0_1_2 : (⟨S1x4096x1, .f32⟩ : BufTy).Contents (Elt F) → (⟨S10x4096x512, .f32⟩ : BufTy).Contents (Elt F)),
    unary main_v7 main_v9 (broadcastInDim S10x4096x512 ![0, 1, 2] bcast_S10x1x512_S10x4096x512_0_1_2 : (⟨S10x1x512, .f32⟩ : BufTy).Contents (Elt F) → (⟨S10x4096x512, .f32⟩ : BufTy).Contents (Elt F)),
    binary main_v8 main_v9 main_v10 (addf : (⟨S10x4096x512, .f32⟩ : BufTy).Contents (Elt F) → (⟨S10x4096x512, .f32⟩ : BufTy).Contents (Elt F) → (⟨S10x4096x512, .f32⟩ : BufTy).Contents (Elt F)),
    nullary main_cst_1 (constant S_ .f32 0x40000000#32),
    unary main_cst_1 main_v11 (broadcastInDim S10x4096x512 ![] bcast_S_S10x4096x512 : (⟨S_, .f32⟩ : BufTy).Contents (Elt F) → (⟨S10x4096x512, .f32⟩ : BufTy).Contents (Elt F)),
    binary main_v11 main_v5 main_v12 (mulf : (⟨S10x4096x512, .f32⟩ : BufTy).Contents (Elt F) → (⟨S10x4096x512, .f32⟩ : BufTy).Contents (Elt F) → (⟨S10x4096x512, .f32⟩ : BufTy).Contents (Elt F)),
    binary main_v10 main_v12 main_v13 (subf : (⟨S10x4096x512, .f32⟩ : BufTy).Contents (Elt F) → (⟨S10x4096x512, .f32⟩ : BufTy).Contents (Elt F) → (⟨S10x4096x512, .f32⟩ : BufTy).Contents (Elt F)),
    nullary main_cst_2 (constant S_ .f32 0x00000000#32),
    unary main_cst_2 main_v14 (broadcastInDim S10x4096x512 ![] bcast_S_S10x4096x512 : (⟨S_, .f32⟩ : BufTy).Contents (Elt F) → (⟨S10x4096x512, .f32⟩ : BufTy).Contents (Elt F)),
    binary main_v13 main_v14 main_v15 (maximumf : (⟨S10x4096x512, .f32⟩ : BufTy).Contents (Elt F) → (⟨S10x4096x512, .f32⟩ : BufTy).Contents (Elt F) → (⟨S10x4096x512, .f32⟩ : BufTy).Contents (Elt F)),
    unary main_v15 main_v16 (Host.sqrt : (⟨S10x4096x512, .f32⟩ : BufTy).Contents (Elt F) → (⟨S10x4096x512, .f32⟩ : BufTy).Contents (Elt F)) ]

/-- The operations of the nearest prototype of each class. -/
abbrev opsNear : List (HloOp τ sig (Elt F)) :=
  [ TRef.nullary main_call0.v0 (iotaInDim S10x4096x512 32 2),
    TRef.nullary main_call0.cst (constant S_ .f32 0x7F800000#32),
    TRef.nullary main_call0.c (constantI S_ 32 0#32),
    TRef.quaternary (.of main_v16 : TRef sig ⟨S10x4096x512, .f32⟩) main_call0.v0 main_call0.cst main_call0.c main_call0.v1_0 (fun x y u v j => (Host.argReduce reducer_argmin_f32_i32 x y u v reducesTo_S10x4096x512_S10x4096_d2 h_S_ j).1),
    TRef.quaternary (.of main_v16 : TRef sig ⟨S10x4096x512, .f32⟩) main_call0.v0 main_call0.cst main_call0.c main_call0.v1_1 (fun x y u v j => (Host.argReduce reducer_argmin_f32_i32 x y u v reducesTo_S10x4096x512_S10x4096_d2 h_S_ j).2) ]

/-- The operations of the nearest prototype's index within the sample's own class. -/
abbrev opsPick : List (HloOp τ sig (Elt F)) :=
  [ nullary main_v18 (iotaInDim S4096 32 0),
    nullary main_c (constantI S_ 32 0#32),
    unary main_c main_v19 (broadcastInDim S4096 ![] bcast_S_S4096 : (⟨S_, .i32⟩ : BufTy).Contents (Elt F) → (⟨S4096, .i32⟩ : BufTy).Contents (Elt F)),
    binary main_arg1 main_v19 main_v20 (cmpi .slt : (⟨S4096, .i32⟩ : BufTy).Contents (Elt F) → (⟨S4096, .i32⟩ : BufTy).Contents (Elt F) → (⟨S4096, .i1⟩ : BufTy).Contents (Elt F)),
    nullary main_c_3 (constantI S_ 32 10#32),
    unary main_c_3 main_v21 (broadcastInDim S4096 ![] bcast_S_S4096 : (⟨S_, .i32⟩ : BufTy).Contents (Elt F) → (⟨S4096, .i32⟩ : BufTy).Contents (Elt F)),
    binary main_arg1 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_arg1 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_4 (constantI S_ 32 0#32),
    unary main_c_4 main_v24 (broadcastInDim S4096 ![] bcast_S_S4096 : (⟨S_, .i32⟩ : BufTy).Contents (Elt F) → (⟨S4096, .i32⟩ : BufTy).Contents (Elt F)),
    binary main_v18 main_v24 main_v25 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v26 (broadcastInDim S4096 ![] bcast_S_S4096 : (⟨S_, .i32⟩ : BufTy).Contents (Elt F) → (⟨S4096, .i32⟩ : BufTy).Contents (Elt F)),
    binary main_v18 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_v18 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v29 (broadcastInDim S4096x1 ![0] bcast_S4096_S4096x1_0 : (⟨S4096, .i32⟩ : BufTy).Contents (Elt F) → (⟨S4096x1, .i32⟩ : BufTy).Contents (Elt F)),
    unary main_v28 main_v30 (broadcastInDim S4096x1 ![0] bcast_S4096_S4096x1_0 : (⟨S4096, .i32⟩ : BufTy).Contents (Elt F) → (⟨S4096x1, .i32⟩ : BufTy).Contents (Elt F)),
    binary main_v29 main_v30 main_v31 (joined (F := F)),
    binary main_v17 main_v31 main_v32 ((fun x i => Host.gather gather_S10x4096_S4096x2_S4096_n_01_n_n_01_1_11 x i) : (⟨S10x4096, .i32⟩ : BufTy).Contents (Elt F) → (⟨S4096x2, .i32⟩ : BufTy).Contents (Elt F) → (⟨S4096, .i32⟩ : BufTy).Contents (Elt F)) ]

/-- The operations of that prototype itself. -/
abbrev opsRow : List (HloOp τ sig (Elt F)) :=
  [ nullary main_c_6 (constantI S_ 32 0#32),
    unary main_c_6 main_v33 (broadcastInDim S4096 ![] bcast_S_S4096 : (⟨S_, .i32⟩ : BufTy).Contents (Elt F) → (⟨S4096, .i32⟩ : BufTy).Contents (Elt F)),
    binary main_arg1 main_v33 main_v34 (cmpi .slt : (⟨S4096, .i32⟩ : BufTy).Contents (Elt F) → (⟨S4096, .i32⟩ : BufTy).Contents (Elt F) → (⟨S4096, .i1⟩ : BufTy).Contents (Elt F)),
    nullary main_c_7 (constantI S_ 32 10#32),
    unary main_c_7 main_v35 (broadcastInDim S4096 ![] bcast_S_S4096 : (⟨S_, .i32⟩ : BufTy).Contents (Elt F) → (⟨S4096, .i32⟩ : BufTy).Contents (Elt F)),
    binary main_arg1 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_arg1 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v32 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 512#32),
    unary main_c_9 main_v40 (broadcastInDim S4096 ![] bcast_S_S4096 : (⟨S_, .i32⟩ : BufTy).Contents (Elt F) → (⟨S4096, .i32⟩ : BufTy).Contents (Elt F)),
    binary main_v32 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v32 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v43 (broadcastInDim S4096x1 ![0] bcast_S4096_S4096x1_0 : (⟨S4096, .i32⟩ : BufTy).Contents (Elt F) → (⟨S4096x1, .i32⟩ : BufTy).Contents (Elt F)),
    unary main_v42 main_v44 (broadcastInDim S4096x1 ![0] bcast_S4096_S4096x1_0 : (⟨S4096, .i32⟩ : BufTy).Contents (Elt F) → (⟨S4096x1, .i32⟩ : BufTy).Contents (Elt F)),
    binary main_v43 main_v44 main_v45 (joined (F := F)),
    binary main_arg2 main_v45 main_v46 ((fun x i => Host.gather gather_S10x512x64_S4096x2_S4096x64_1_01_n_n_01_1_1164 x i) : (⟨S10x512x64, .f32⟩ : BufTy).Contents (Elt F) → (⟨S4096x2, .i32⟩ : BufTy).Contents (Elt F) → (⟨S4096x64, .f32⟩ : BufTy).Contents (Elt F)) ]

/-- The operations of the loss. -/
abbrev opsLoss : List (HloOp τ sig (Elt F)) :=
  [ binary main_arg0 main_v46 main_v47 (subf : (⟨S4096x64, .f32⟩ : BufTy).Contents (Elt F) → (⟨S4096x64, .f32⟩ : BufTy).Contents (Elt F) → (⟨S4096x64, .f32⟩ : BufTy).Contents (Elt F)),
    binary main_v47 main_v47 main_v48 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v48 main_cst_10 main_v49 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_11 (constant S_ .f32 0x48800000#32),
    binary main_v49 main_cst_11 main_v50 (Host.divf : (⟨S_, .f32⟩ : BufTy).Contents (Elt F) → (⟨S_, .f32⟩ : BufTy).Contents (Elt F) → (⟨S_, .f32⟩ : BufTy).Contents (Elt F)),
    nullary main_cst_12 (constant S_ .f32 0x40A00000#32),
    binary main_cst_12 main_v50 main_v51 (mulf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    binary main_cst_13 main_v50 main_v52 (subf : (⟨S_, .f32⟩ : BufTy).Contents (Elt F) → (⟨S_, .f32⟩ : BufTy).Contents (Elt F) → (⟨S_, .f32⟩ : BufTy).Contents (Elt F)),
    nullary main_cst_14 (constant S_ .f32 0x40A00000#32),
    binary main_cst_14 main_v52 main_v53 (mulf : (⟨S_, .f32⟩ : BufTy).Contents (Elt F) → (⟨S_, .f32⟩ : BufTy).Contents (Elt F) → (⟨S_, .f32⟩ : BufTy).Contents (Elt F)),
    binary main_v51 main_v53 main_v54 (addf : (⟨S_, .f32⟩ : BufTy).Contents (Elt F) → (⟨S_, .f32⟩ : BufTy).Contents (Elt F) → (⟨S_, .f32⟩ : BufTy).Contents (Elt F)),
    reshape main_v54 main_v55 (rfl : (.f32 : EltTy) = .f32) shapeCasts_S_S1x1 ]

/-- The operations of `main`, in order. -/
abbrev ops : List (HloOp τ sig (Elt F)) := opsDist ++ (opsNear ++ (opsPick ++ (opsRow ++ opsLoss)))

set_option maxRecDepth 8192 in
set_option maxHeartbeats 4000000 in
/-- `main` is its operations in sequence. -/
theorem main_eq (c : Dev nD) : main (F := F) c = seq ops := rfl

/-- No buffer is local to a kernel: there is no kernel. -/
theorem scopedRefs_eq : (Finset.univ.filter fun b : Ref sig .tc => b.isScoped) = ∅ := by decide

/-- No semaphore is local to a kernel. -/
theorem scopedSems_eq : (Finset.univ.filter fun sm : SemLoc sig => sm.isScoped .tc) = ∅ := by decide

set_option maxRecDepth 8192 in
/-- Every operation reads and writes buffers of the device alone. -/
theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., reshape_bufs_sub ..⟩

/-- Running one list after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

/-- After the operations of the distances of every sample to every prototype, their result is its term of what was read. -/
theorem dist_v16 : after opsDist V (Proc.devRef .tc main_v16) = distances (V (Proc.devRef .tc main_arg0)) (V (Proc.devRef .tc main_arg2)) := by
  after_results_simp
  try rfl

/-- After the operations of the distances of every sample to every prototype, the arguments are as before. -/
theorem dist_arg0 : after opsDist V (Proc.devRef .tc main_arg0) = V (Proc.devRef .tc main_arg0) := by
  after_results_simp
  try rfl

/-- After the operations of the distances of every sample to every prototype, the arguments are as before. -/
theorem dist_arg1 : after opsDist V (Proc.devRef .tc main_arg1) = V (Proc.devRef .tc main_arg1) := by
  after_results_simp
  try rfl

/-- After the operations of the distances of every sample to every prototype, the arguments are as before. -/
theorem dist_arg2 : after opsDist V (Proc.devRef .tc main_arg2) = V (Proc.devRef .tc main_arg2) := by
  after_results_simp
  try rfl

/-- After the operations of the nearest prototype of each class, their result is its term of what was read. -/
theorem near_v17 : after opsNear V (Proc.devRef .tc main_v17) = nearest (V (Proc.devRef .tc main_v16)) := by
  after_results_simp
  simp -implicitDefEqProofs only [TRef.toBuf, TRef.ofBuf, cast_eq]
  rfl

/-- After the operations of the nearest prototype of each class, the arguments are as before. -/
theorem near_arg0 : after opsNear V (Proc.devRef .tc main_arg0) = V (Proc.devRef .tc main_arg0) := by
  after_results_simp
  try rfl

/-- After the operations of the nearest prototype of each class, the arguments are as before. -/
theorem near_arg1 : after opsNear V (Proc.devRef .tc main_arg1) = V (Proc.devRef .tc main_arg1) := by
  after_results_simp
  try rfl

/-- After the operations of the nearest prototype of each class, the arguments are as before. -/
theorem near_arg2 : after opsNear V (Proc.devRef .tc main_arg2) = V (Proc.devRef .tc main_arg2) := by
  after_results_simp
  try rfl

/-- After the operations of the nearest prototype's index within the sample's own class, their result is its term of what was read. -/
theorem pick_v32 : after opsPick V (Proc.devRef .tc main_v32) = ownNearest (F := F) (V (Proc.devRef .tc main_arg1)) (V (Proc.devRef .tc main_v17)) := by
  after_results_simp
  try rfl

/-- After the operations of the nearest prototype's index within the sample's own class, the arguments are as before. -/
theorem pick_arg0 : after opsPick V (Proc.devRef .tc main_arg0) = V (Proc.devRef .tc main_arg0) := by
  after_results_simp
  try rfl

/-- After the operations of the nearest prototype's index within the sample's own class, the arguments are as before. -/
theorem pick_arg1 : after opsPick V (Proc.devRef .tc main_arg1) = V (Proc.devRef .tc main_arg1) := by
  after_results_simp
  try rfl

/-- After the operations of the nearest prototype's index within the sample's own class, the arguments are as before. -/
theorem pick_arg2 : after opsPick V (Proc.devRef .tc main_arg2) = V (Proc.devRef .tc main_arg2) := by
  after_results_simp
  try rfl

/-- After the operations of that prototype itself, their result is its term of what was read. -/
theorem row_v46 : after opsRow V (Proc.devRef .tc main_v46) = ownPrototype (V (Proc.devRef .tc main_arg2)) (V (Proc.devRef .tc main_arg1)) (V (Proc.devRef .tc main_v32)) := by
  after_results_simp
  try rfl

/-- After the operations of that prototype itself, the arguments are as before. -/
theorem row_arg0 : after opsRow V (Proc.devRef .tc main_arg0) = V (Proc.devRef .tc main_arg0) := by
  after_results_simp
  try rfl

/-- After the operations of that prototype itself, the arguments are as before. -/
theorem row_arg1 : after opsRow V (Proc.devRef .tc main_arg1) = V (Proc.devRef .tc main_arg1) := by
  after_results_simp
  try rfl

/-- After the operations of that prototype itself, the arguments are as before. -/
theorem row_arg2 : after opsRow V (Proc.devRef .tc main_arg2) = V (Proc.devRef .tc main_arg2) := by
  after_results_simp
  try rfl

/-- After the operations of the loss, their result is its term of what was read. -/
theorem loss_v55 : after opsLoss V (Proc.devRef .tc main_v55) = weighted 0x40A00000#32 0x40A00000#32 (meanSquare (V (Proc.devRef .tc main_arg0)) (V (Proc.devRef .tc main_v46))) := by
  after_results_simp
  try rfl

/-- After the operations of the loss, the arguments are as before. -/
theorem loss_arg0 : after opsLoss V (Proc.devRef .tc main_arg0) = V (Proc.devRef .tc main_arg0) := by
  after_results_simp
  try rfl

/-- After the operations of the loss, the arguments are as before. -/
theorem loss_arg1 : after opsLoss V (Proc.devRef .tc main_arg1) = V (Proc.devRef .tc main_arg1) := by
  after_results_simp
  try rfl

/-- After the operations of the loss, the arguments are as before. -/
theorem loss_arg2 : after opsLoss V (Proc.devRef .tc main_arg2) = V (Proc.devRef .tc main_arg2) := by
  after_results_simp
  try rfl

/-- The whole program's result, as a term of its arguments. -/
theorem ops_v55 : after ops V (Proc.devRef .tc main_v55)
    = loss 0x40A00000#32 0x40A00000#32 (V (Proc.devRef .tc main_arg0)) (V (Proc.devRef .tc main_arg1)) (V (Proc.devRef .tc main_arg2)) := by
  simp only [ops, after_append]
  rw [loss_v55, row_v46, row_arg0, pick_v32, pick_arg0, pick_arg1, pick_arg2, near_v17, near_arg0, near_arg1, near_arg2,
    dist_v16, dist_arg0, dist_arg1, dist_arg2]
  rfl

/-- The program leaves argument 0 as it was. -/
theorem ops_arg0 : after ops V (Proc.devRef .tc main_arg0) = V (Proc.devRef .tc main_arg0) := by
  simp only [ops, after_append]
  rw [loss_arg0, row_arg0, pick_arg0, near_arg0, dist_arg0]

/-- The program leaves argument 1 as it was. -/
theorem ops_arg1 : after ops V (Proc.devRef .tc main_arg1) = V (Proc.devRef .tc main_arg1) := by
  simp only [ops, after_append]
  rw [loss_arg1, row_arg1, pick_arg1, near_arg1, dist_arg1]

/-- The program leaves argument 2 as it was. -/
theorem ops_arg2 : after ops V (Proc.devRef .tc main_arg2) = V (Proc.devRef .tc main_arg2) := by
  simp only [ops, after_append]
  rw [loss_arg2, row_arg2, pick_arg2, near_arg2, dist_arg2]

/-- From any memory with zero counters every weakly fair execution of the program ends with the result at its term
    of the arguments, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = loss 0x40A00000#32 0x40A00000#32 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v55).trans ((ops_v55 _).trans rfl),
      (h c main_arg0).trans ((ops_arg0 _).trans rfl), (h c main_arg1).trans ((ops_arg1 _).trans rfl),
      (h c main_arg2).trans ((ops_arg2 _).trans rfl)⟩)
    (run_seq scopedRefs_eq scopedSems_eq defs main (fun _ => ops) main_eq (fun _ => ops_sub) m ρ)

end Cert.ReferenceIdeal.Run

end
-- ==== Proof.TargetReferenceRun.lean ====
module

public import proofs.«01_k».proof.Proof.ReferenceTerms
public import proofs.«01_k».proof.TargetLossReferenceIdeal
public import proofs.«01_k».proof.Proof.Gen.TargetLossReferenceIdeal
public import Idealize.ShloMosaic.Lib.StableHlo.Run

/-!
# The run of the reference at weights one and zero

The program is one line of host operations. It is cut here into five stretches — the distances, the nearest
prototype of every class, its index for the sample's own class, that prototype's row, and the loss — and each
stretch is read back on its own, at the terms of `ReferenceTerms`.
-/

@[expose] public section

noncomputable section

namespace Cert.TargetLossReferenceIdeal.Run

open Cert.TargetLossReferenceIdeal Cert.TargetLossReferenceIdeal.Gen Idealize.ShloMosaic Idealize.ShloMosaic.TcCoe Idealize.SL.Sem Idealize.ShloMosaic.StableHlo
open Cert.ReferenceTerms

variable {F : FTy → Type} [FloatOps F]

/-- The operations of the distances of every sample to every prototype. -/
abbrev opsDist : List (HloOp τ sig (Elt F)) :=
  [ binary main_arg0 main_arg0 main_v0 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v0 main_cst main_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_arg2 main_arg2 main_v2 (mulf : (⟨S10x512x64, .f32⟩ : BufTy).Contents (Elt F) → (⟨S10x512x64, .f32⟩ : BufTy).Contents (Elt F) → (⟨S10x512x64, .f32⟩ : BufTy).Contents (Elt F)),
    nullary main_cst_0 (constant S_ .f32 0x00000000#32),
    binary main_v2 main_cst_0 main_v3 ((fun x v => Host.reduceAdd x v reducesTo_S10x512x64_S10x512_d2 h_S_) : (⟨S10x512x64, .f32⟩ : BufTy).Contents (Elt F) → (⟨S_, .f32⟩ : BufTy).Contents (Elt F) → (⟨S10x512, .f32⟩ : BufTy).Contents (Elt F)),
    binary main_arg2 main_arg0 main_v4 ((fun l r => Host.dotGeneral dot_S10x512x64_S4096x64_S10x512x4096_2_1_01_0_n_n none l r) : (⟨S10x512x64, .f32⟩ : BufTy).Contents (Elt F) → (⟨S4096x64, .f32⟩ : BufTy).Contents (Elt F) → (⟨S10x512x4096, .f32⟩ : BufTy).Contents (Elt F)),
    unary main_v4 main_v5 ((transpose S10x4096x512 [0, 2, 1] · transposes_S10x512x4096_S10x4096x512_0_2_1) : (⟨S10x512x4096, .f32⟩ : BufTy).Contents (Elt F) → (⟨S10x4096x512, .f32⟩ : BufTy).Contents (Elt F)),
    unary main_v1 main_v6 (broadcastInDim S1x4096x1 ![1] bcast_S4096_S1x4096x1_1 : (⟨S4096, .f32⟩ : BufTy).Contents (Elt F) → (⟨S1x4096x1, .f32⟩ : BufTy).Contents (Elt F)),
    unary main_v3 main_v7 (broadcastInDim S10x1x512 ![0, 2] bcast_S10x512_S10x1x512_0_2 : (⟨S10x512, .f32⟩ : BufTy).Contents (Elt F) → (⟨S10x1x512, .f32⟩ : BufTy).Contents (Elt F)),
    unary main_v6 main_v8 (broadcastInDim S10x4096x512 ![0, 1, 2] bcast_S1x4096x1_S10x4096x512_0_1_2 : (⟨S1x4096x1, .f32⟩ : BufTy).Contents (Elt F) → (⟨S10x4096x512, .f32⟩ : BufTy).Contents (Elt F)),
    unary main_v7 main_v9 (broadcastInDim S10x4096x512 ![0, 1, 2] bcast_S10x1x512_S10x4096x512_0_1_2 : (⟨S10x1x512, .f32⟩ : BufTy).Contents (Elt F) → (⟨S10x4096x512, .f32⟩ : BufTy).Contents (Elt F)),
    binary main_v8 main_v9 main_v10 (addf : (⟨S10x4096x512, .f32⟩ : BufTy).Contents (Elt F) → (⟨S10x4096x512, .f32⟩ : BufTy).Contents (Elt F) → (⟨S10x4096x512, .f32⟩ : BufTy).Contents (Elt F)),
    nullary main_cst_1 (constant S_ .f32 0x40000000#32),
    unary main_cst_1 main_v11 (broadcastInDim S10x4096x512 ![] bcast_S_S10x4096x512 : (⟨S_, .f32⟩ : BufTy).Contents (Elt F) → (⟨S10x4096x512, .f32⟩ : BufTy).Contents (Elt F)),
    binary main_v11 main_v5 main_v12 (mulf : (⟨S10x4096x512, .f32⟩ : BufTy).Contents (Elt F) → (⟨S10x4096x512, .f32⟩ : BufTy).Contents (Elt F) → (⟨S10x4096x512, .f32⟩ : BufTy).Contents (Elt F)),
    binary main_v10 main_v12 main_v13 (subf : (⟨S10x4096x512, .f32⟩ : BufTy).Contents (Elt F) → (⟨S10x4096x512, .f32⟩ : BufTy).Contents (Elt F) → (⟨S10x4096x512, .f32⟩ : BufTy).Contents (Elt F)),
    nullary main_cst_2 (constant S_ .f32 0x00000000#32),
    unary main_cst_2 main_v14 (broadcastInDim S10x4096x512 ![] bcast_S_S10x4096x512 : (⟨S_, .f32⟩ : BufTy).Contents (Elt F) → (⟨S10x4096x512, .f32⟩ : BufTy).Contents (Elt F)),
    binary main_v13 main_v14 main_v15 (maximumf : (⟨S10x4096x512, .f32⟩ : BufTy).Contents (Elt F) → (⟨S10x4096x512, .f32⟩ : BufTy).Contents (Elt F) → (⟨S10x4096x512, .f32⟩ : BufTy).Contents (Elt F)),
    unary main_v15 main_v16 (Host.sqrt : (⟨S10x4096x512, .f32⟩ : BufTy).Contents (Elt F) → (⟨S10x4096x512, .f32⟩ : BufTy).Contents (Elt F)) ]

/-- The operations of the nearest prototype of each class. -/
abbrev opsNear : List (HloOp τ sig (Elt F)) :=
  [ TRef.nullary main_call0.v0 (iotaInDim S10x4096x512 32 2),
    TRef.nullary main_call0.cst (constant S_ .f32 0x7F800000#32),
    TRef.nullary main_call0.c (constantI S_ 32 0#32),
    TRef.quaternary (.of main_v16 : TRef sig ⟨S10x4096x512, .f32⟩) main_call0.v0 main_call0.cst main_call0.c main_call0.v1_0 (fun x y u v j => (Host.argReduce reducer_argmin_f32_i32 x y u v reducesTo_S10x4096x512_S10x4096_d2 h_S_ j).1),
    TRef.quaternary (.of main_v16 : TRef sig ⟨S10x4096x512, .f32⟩) main_call0.v0 main_call0.cst main_call0.c main_call0.v1_1 (fun x y u v j => (Host.argReduce reducer_argmin_f32_i32 x y u v reducesTo_S10x4096x512_S10x4096_d2 h_S_ j).2) ]

/-- The operations of the nearest prototype's index within the sample's own class. -/
abbrev opsPick : List (HloOp τ sig (Elt F)) :=
  [ nullary main_v18 (iotaInDim S4096 32 0),
    nullary main_c (constantI S_ 32 0#32),
    unary main_c main_v19 (broadcastInDim S4096 ![] bcast_S_S4096 : (⟨S_, .i32⟩ : BufTy).Contents (Elt F) → (⟨S4096, .i32⟩ : BufTy).Contents (Elt F)),
    binary main_arg1 main_v19 main_v20 (cmpi .slt : (⟨S4096, .i32⟩ : BufTy).Contents (Elt F) → (⟨S4096, .i32⟩ : BufTy).Contents (Elt F) → (⟨S4096, .i1⟩ : BufTy).Contents (Elt F)),
    nullary main_c_3 (constantI S_ 32 10#32),
    unary main_c_3 main_v21 (broadcastInDim S4096 ![] bcast_S_S4096 : (⟨S_, .i32⟩ : BufTy).Contents (Elt F) → (⟨S4096, .i32⟩ : BufTy).Contents (Elt F)),
    binary main_arg1 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_arg1 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_4 (constantI S_ 32 0#32),
    unary main_c_4 main_v24 (broadcastInDim S4096 ![] bcast_S_S4096 : (⟨S_, .i32⟩ : BufTy).Contents (Elt F) → (⟨S4096, .i32⟩ : BufTy).Contents (Elt F)),
    binary main_v18 main_v24 main_v25 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v26 (broadcastInDim S4096 ![] bcast_S_S4096 : (⟨S_, .i32⟩ : BufTy).Contents (Elt F) → (⟨S4096, .i32⟩ : BufTy).Contents (Elt F)),
    binary main_v18 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_v18 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v29 (broadcastInDim S4096x1 ![0] bcast_S4096_S4096x1_0 : (⟨S4096, .i32⟩ : BufTy).Contents (Elt F) → (⟨S4096x1, .i32⟩ : BufTy).Contents (Elt F)),
    unary main_v28 main_v30 (broadcastInDim S4096x1 ![0] bcast_S4096_S4096x1_0 : (⟨S4096, .i32⟩ : BufTy).Contents (Elt F) → (⟨S4096x1, .i32⟩ : BufTy).Contents (Elt F)),
    binary main_v29 main_v30 main_v31 (joined (F := F)),
    binary main_v17 main_v31 main_v32 ((fun x i => Host.gather gather_S10x4096_S4096x2_S4096_n_01_n_n_01_1_11 x i) : (⟨S10x4096, .i32⟩ : BufTy).Contents (Elt F) → (⟨S4096x2, .i32⟩ : BufTy).Contents (Elt F) → (⟨S4096, .i32⟩ : BufTy).Contents (Elt F)) ]

/-- The operations of that prototype itself. -/
abbrev opsRow : List (HloOp τ sig (Elt F)) :=
  [ nullary main_c_6 (constantI S_ 32 0#32),
    unary main_c_6 main_v33 (broadcastInDim S4096 ![] bcast_S_S4096 : (⟨S_, .i32⟩ : BufTy).Contents (Elt F) → (⟨S4096, .i32⟩ : BufTy).Contents (Elt F)),
    binary main_arg1 main_v33 main_v34 (cmpi .slt : (⟨S4096, .i32⟩ : BufTy).Contents (Elt F) → (⟨S4096, .i32⟩ : BufTy).Contents (Elt F) → (⟨S4096, .i1⟩ : BufTy).Contents (Elt F)),
    nullary main_c_7 (constantI S_ 32 10#32),
    unary main_c_7 main_v35 (broadcastInDim S4096 ![] bcast_S_S4096 : (⟨S_, .i32⟩ : BufTy).Contents (Elt F) → (⟨S4096, .i32⟩ : BufTy).Contents (Elt F)),
    binary main_arg1 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_arg1 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v32 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 512#32),
    unary main_c_9 main_v40 (broadcastInDim S4096 ![] bcast_S_S4096 : (⟨S_, .i32⟩ : BufTy).Contents (Elt F) → (⟨S4096, .i32⟩ : BufTy).Contents (Elt F)),
    binary main_v32 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v32 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v43 (broadcastInDim S4096x1 ![0] bcast_S4096_S4096x1_0 : (⟨S4096, .i32⟩ : BufTy).Contents (Elt F) → (⟨S4096x1, .i32⟩ : BufTy).Contents (Elt F)),
    unary main_v42 main_v44 (broadcastInDim S4096x1 ![0] bcast_S4096_S4096x1_0 : (⟨S4096, .i32⟩ : BufTy).Contents (Elt F) → (⟨S4096x1, .i32⟩ : BufTy).Contents (Elt F)),
    binary main_v43 main_v44 main_v45 (joined (F := F)),
    binary main_arg2 main_v45 main_v46 ((fun x i => Host.gather gather_S10x512x64_S4096x2_S4096x64_1_01_n_n_01_1_1164 x i) : (⟨S10x512x64, .f32⟩ : BufTy).Contents (Elt F) → (⟨S4096x2, .i32⟩ : BufTy).Contents (Elt F) → (⟨S4096x64, .f32⟩ : BufTy).Contents (Elt F)) ]

/-- The operations of the loss. -/
abbrev opsLoss : List (HloOp τ sig (Elt F)) :=
  [ binary main_arg0 main_v46 main_v47 (subf : (⟨S4096x64, .f32⟩ : BufTy).Contents (Elt F) → (⟨S4096x64, .f32⟩ : BufTy).Contents (Elt F) → (⟨S4096x64, .f32⟩ : BufTy).Contents (Elt F)),
    binary main_v47 main_v47 main_v48 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v48 main_cst_10 main_v49 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_11 (constant S_ .f32 0x48800000#32),
    binary main_v49 main_cst_11 main_v50 (Host.divf : (⟨S_, .f32⟩ : BufTy).Contents (Elt F) → (⟨S_, .f32⟩ : BufTy).Contents (Elt F) → (⟨S_, .f32⟩ : BufTy).Contents (Elt F)),
    nullary main_cst_12 (constant S_ .f32 0x3F800000#32),
    binary main_cst_12 main_v50 main_v51 (mulf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    binary main_cst_13 main_v50 main_v52 (subf : (⟨S_, .f32⟩ : BufTy).Contents (Elt F) → (⟨S_, .f32⟩ : BufTy).Contents (Elt F) → (⟨S_, .f32⟩ : BufTy).Contents (Elt F)),
    nullary main_cst_14 (constant S_ .f32 0x00000000#32),
    binary main_cst_14 main_v52 main_v53 (mulf : (⟨S_, .f32⟩ : BufTy).Contents (Elt F) → (⟨S_, .f32⟩ : BufTy).Contents (Elt F) → (⟨S_, .f32⟩ : BufTy).Contents (Elt F)),
    binary main_v51 main_v53 main_v54 (addf : (⟨S_, .f32⟩ : BufTy).Contents (Elt F) → (⟨S_, .f32⟩ : BufTy).Contents (Elt F) → (⟨S_, .f32⟩ : BufTy).Contents (Elt F)),
    reshape main_v54 main_v55 (rfl : (.f32 : EltTy) = .f32) shapeCasts_S_S1x1 ]

/-- The operations of `main`, in order. -/
abbrev ops : List (HloOp τ sig (Elt F)) := opsDist ++ (opsNear ++ (opsPick ++ (opsRow ++ opsLoss)))

set_option maxRecDepth 8192 in
set_option maxHeartbeats 4000000 in
/-- `main` is its operations in sequence. -/
theorem main_eq (c : Dev nD) : main (F := F) c = seq ops := rfl

/-- No buffer is local to a kernel: there is no kernel. -/
theorem scopedRefs_eq : (Finset.univ.filter fun b : Ref sig .tc => b.isScoped) = ∅ := by decide

/-- No semaphore is local to a kernel. -/
theorem scopedSems_eq : (Finset.univ.filter fun sm : SemLoc sig => sm.isScoped .tc) = ∅ := by decide

set_option maxRecDepth 8192 in
/-- Every operation reads and writes buffers of the device alone. -/
theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., reshape_bufs_sub ..⟩

/-- Running one list after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

/-- After the operations of the distances of every sample to every prototype, their result is its term of what was read. -/
theorem dist_v16 : after opsDist V (Proc.devRef .tc main_v16) = distances (V (Proc.devRef .tc main_arg0)) (V (Proc.devRef .tc main_arg2)) := by
  after_results_simp
  try rfl

/-- After the operations of the distances of every sample to every prototype, the arguments are as before. -/
theorem dist_arg0 : after opsDist V (Proc.devRef .tc main_arg0) = V (Proc.devRef .tc main_arg0) := by
  after_results_simp
  try rfl

/-- After the operations of the distances of every sample to every prototype, the arguments are as before. -/
theorem dist_arg1 : after opsDist V (Proc.devRef .tc main_arg1) = V (Proc.devRef .tc main_arg1) := by
  after_results_simp
  try rfl

/-- After the operations of the distances of every sample to every prototype, the arguments are as before. -/
theorem dist_arg2 : after opsDist V (Proc.devRef .tc main_arg2) = V (Proc.devRef .tc main_arg2) := by
  after_results_simp
  try rfl

/-- After the operations of the nearest prototype of each class, their result is its term of what was read. -/
theorem near_v17 : after opsNear V (Proc.devRef .tc main_v17) = nearest (V (Proc.devRef .tc main_v16)) := by
  after_results_simp
  simp -implicitDefEqProofs only [TRef.toBuf, TRef.ofBuf, cast_eq]
  rfl

/-- After the operations of the nearest prototype of each class, the arguments are as before. -/
theorem near_arg0 : after opsNear V (Proc.devRef .tc main_arg0) = V (Proc.devRef .tc main_arg0) := by
  after_results_simp
  try rfl

/-- After the operations of the nearest prototype of each class, the arguments are as before. -/
theorem near_arg1 : after opsNear V (Proc.devRef .tc main_arg1) = V (Proc.devRef .tc main_arg1) := by
  after_results_simp
  try rfl

/-- After the operations of the nearest prototype of each class, the arguments are as before. -/
theorem near_arg2 : after opsNear V (Proc.devRef .tc main_arg2) = V (Proc.devRef .tc main_arg2) := by
  after_results_simp
  try rfl

/-- After the operations of the nearest prototype's index within the sample's own class, their result is its term of what was read. -/
theorem pick_v32 : after opsPick V (Proc.devRef .tc main_v32) = ownNearest (F := F) (V (Proc.devRef .tc main_arg1)) (V (Proc.devRef .tc main_v17)) := by
  after_results_simp
  try rfl

/-- After the operations of the nearest prototype's index within the sample's own class, the arguments are as before. -/
theorem pick_arg0 : after opsPick V (Proc.devRef .tc main_arg0) = V (Proc.devRef .tc main_arg0) := by
  after_results_simp
  try rfl

/-- After the operations of the nearest prototype's index within the sample's own class, the arguments are as before. -/
theorem pick_arg1 : after opsPick V (Proc.devRef .tc main_arg1) = V (Proc.devRef .tc main_arg1) := by
  after_results_simp
  try rfl

/-- After the operations of the nearest prototype's index within the sample's own class, the arguments are as before. -/
theorem pick_arg2 : after opsPick V (Proc.devRef .tc main_arg2) = V (Proc.devRef .tc main_arg2) := by
  after_results_simp
  try rfl

/-- After the operations of that prototype itself, their result is its term of what was read. -/
theorem row_v46 : after opsRow V (Proc.devRef .tc main_v46) = ownPrototype (V (Proc.devRef .tc main_arg2)) (V (Proc.devRef .tc main_arg1)) (V (Proc.devRef .tc main_v32)) := by
  after_results_simp
  try rfl

/-- After the operations of that prototype itself, the arguments are as before. -/
theorem row_arg0 : after opsRow V (Proc.devRef .tc main_arg0) = V (Proc.devRef .tc main_arg0) := by
  after_results_simp
  try rfl

/-- After the operations of that prototype itself, the arguments are as before. -/
theorem row_arg1 : after opsRow V (Proc.devRef .tc main_arg1) = V (Proc.devRef .tc main_arg1) := by
  after_results_simp
  try rfl

/-- After the operations of that prototype itself, the arguments are as before. -/
theorem row_arg2 : after opsRow V (Proc.devRef .tc main_arg2) = V (Proc.devRef .tc main_arg2) := by
  after_results_simp
  try rfl

/-- After the operations of the loss, their result is its term of what was read. -/
theorem loss_v55 : after opsLoss V (Proc.devRef .tc main_v55) = weighted 0x3F800000#32 0x00000000#32 (meanSquare (V (Proc.devRef .tc main_arg0)) (V (Proc.devRef .tc main_v46))) := by
  after_results_simp
  try rfl

/-- After the operations of the loss, the arguments are as before. -/
theorem loss_arg0 : after opsLoss V (Proc.devRef .tc main_arg0) = V (Proc.devRef .tc main_arg0) := by
  after_results_simp
  try rfl

/-- After the operations of the loss, the arguments are as before. -/
theorem loss_arg1 : after opsLoss V (Proc.devRef .tc main_arg1) = V (Proc.devRef .tc main_arg1) := by
  after_results_simp
  try rfl

/-- After the operations of the loss, the arguments are as before. -/
theorem loss_arg2 : after opsLoss V (Proc.devRef .tc main_arg2) = V (Proc.devRef .tc main_arg2) := by
  after_results_simp
  try rfl

/-- The whole program's result, as a term of its arguments. -/
theorem ops_v55 : after ops V (Proc.devRef .tc main_v55)
    = loss 0x3F800000#32 0x00000000#32 (V (Proc.devRef .tc main_arg0)) (V (Proc.devRef .tc main_arg1)) (V (Proc.devRef .tc main_arg2)) := by
  simp only [ops, after_append]
  rw [loss_v55, row_v46, row_arg0, pick_v32, pick_arg0, pick_arg1, pick_arg2, near_v17, near_arg0, near_arg1, near_arg2,
    dist_v16, dist_arg0, dist_arg1, dist_arg2]
  rfl

/-- The program leaves argument 0 as it was. -/
theorem ops_arg0 : after ops V (Proc.devRef .tc main_arg0) = V (Proc.devRef .tc main_arg0) := by
  simp only [ops, after_append]
  rw [loss_arg0, row_arg0, pick_arg0, near_arg0, dist_arg0]

/-- The program leaves argument 1 as it was. -/
theorem ops_arg1 : after ops V (Proc.devRef .tc main_arg1) = V (Proc.devRef .tc main_arg1) := by
  simp only [ops, after_append]
  rw [loss_arg1, row_arg1, pick_arg1, near_arg1, dist_arg1]

/-- The program leaves argument 2 as it was. -/
theorem ops_arg2 : after ops V (Proc.devRef .tc main_arg2) = V (Proc.devRef .tc main_arg2) := by
  simp only [ops, after_append]
  rw [loss_arg2, row_arg2, pick_arg2, near_arg2, dist_arg2]

/-- From any memory with zero counters every weakly fair execution of the program ends with the result at its term
    of the arguments, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = loss 0x3F800000#32 0x00000000#32 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v55).trans ((ops_v55 _).trans rfl),
      (h c main_arg0).trans ((ops_arg0 _).trans rfl), (h c main_arg1).trans ((ops_arg1 _).trans rfl),
      (h c main_arg2).trans ((ops_arg2 _).trans rfl)⟩)
    (run_seq scopedRefs_eq scopedSems_eq defs main (fun _ => ops) main_eq (fun _ => ops_sub) m ρ)

end Cert.TargetLossReferenceIdeal.Run

end
-- ==== Proof.Arith.lean ====
module

public import Idealize.ShloMosaic.Lib.Pointwise

/-!
# Squared distances over the reals

The two programs compute a squared distance as "norm plus norm less twice the product" over the extended reals. For
finite operands that is the sum of the squared differences, a real number that is never negative.
-/

@[expose] public section

noncomputable section

namespace Cert.Arith

open Idealize.ShloMosaic

variable {ι : Type} [Fintype ι]

/-- The sum of the squared differences of two real families. -/
def sqDist (a c : ι → ℝ) : ℝ := ∑ d, (a d - c d) * (a d - c d)

/-- A sum of squares is not negative. -/
theorem sqDist_nonneg (a c : ι → ℝ) : 0 ≤ sqDist a c := Finset.sum_nonneg fun _ _ => mul_self_nonneg _

/-- A finite sum of reals, read in the extended reals. -/
theorem coe_sum (s : Finset ι) (f : ι → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The word of two. -/
theorem word_two : Ideal.ofBits .f32 0x40000000#32 = ((2 : ℝ) : EReal) := by
  simp [Ideal.ofBits, Ideal.ieee]
  rw [← EReal.coe_mul]
  norm_num

/-- The word of 262144. -/
theorem word_count : Ideal.ofBits .f32 0x48800000#32 = ((262144 : ℝ) : EReal) := by
  simp [Ideal.ofBits, Ideal.ieee]
  rw [← EReal.coe_mul]
  norm_num

/-- The word of infinity. -/
theorem word_top : Ideal.ofBits .f32 0x7F800000#32 = (⊤ : EReal) := by
  simp [Ideal.ofBits, Ideal.ieee]

/-- Norm plus norm less twice the product is the sum of the squared differences. -/
theorem expanded_eq (a c : ι → ℝ) :
    (∑ d, (a d : EReal) * a d) + (∑ d, (c d : EReal) * c d) - ((2 : ℝ) : EReal) * ∑ d, (a d : EReal) * c d
      = ((sqDist a c : ℝ) : EReal) := by
  simp only [← EReal.coe_mul, ← coe_sum, ← EReal.coe_add, ← EReal.coe_sub]
  congr 1
  unfold sqDist
  rw [Finset.mul_sum, ← Finset.sum_add_distrib, ← Finset.sum_sub_distrib]
  exact Finset.sum_congr rfl fun d _ => by ring

/-- The same with the product's factors in the other order. -/
theorem expanded_eq' (a c : ι → ℝ) :
    (∑ d, (a d : EReal) * a d) + (∑ d, (c d : EReal) * c d) - ((2 : ℝ) : EReal) * ∑ d, (c d : EReal) * a d
      = ((sqDist a c : ℝ) : EReal) := by
  rw [← expanded_eq a c]
  congr 2
  exact Finset.sum_congr rfl fun d _ => mul_comm _ _

/-- Holding a nonnegative real above zero changes nothing. -/
theorem max_zero {r : ℝ} (h : 0 ≤ r) : max (r : EReal) 0 = r := max_eq_left (by exact_mod_cast h)

/-- The least of finitely many values, from infinity, is the value at any index where it is least. -/
theorem fold_min_eq [DecidableEq ι] (f : ι → EReal) (p : ι) (h : ∀ q, f p ≤ f q) : Finset.univ.fold min ⊤ f = f p := by
  apply le_antisymm
  · exact (Finset.fold_min_le _).mpr (Or.inr ⟨p, Finset.mem_univ _, le_rfl⟩)
  · exact (Finset.le_fold_min _).mpr ⟨le_top, fun q _ => h q⟩

end Cert.Arith

end
-- ==== Proof.Precondition.lean ====
module

public import proofs.«01_k».proof.Pre_finite_in_classes
public import Idealize.ShloMosaic.Lib.Pointwise
public import Idealize.ShloMosaic.Lib.ReduceAll
public import Idealize.ShloMosaic.Lib.WordCmp
public import proofs.«01_k».proof.Proof.Arith

/-!
# What the precondition says

The precondition of the value claims, read element by element: the samples and the prototypes are real numbers, and
every target class is the word of a number below 10.
-/

@[expose] public section

noncomputable section

namespace Cert.Precondition

open Cert.Arith Idealize.ShloMosaic Idealize.ShloMosaic.Pointwise Cert.Pre_finite_in_classes

/-- An extended real whose absolute value is below infinity is a real. -/
theorem real_of_below {v : EReal} (h : FloatOps.cmpf (F := Ideal) (φ := .f32) .olt (max v (-v)) (⊤ : EReal) = 1#1) :
    v = ((v.toReal : ℝ) : EReal) := by
  have h' : max v (-v) < ⊤ := by
    by_contra hn
    simp [FloatOps.cmpf, Ideal.cmp, hn] at h
  have h1 : v < ⊤ := lt_of_le_of_lt (le_max_left _ _) h'
  have h2 : -v < ⊤ := lt_of_le_of_lt (le_max_right _ _) h'
  refine (EReal.coe_toReal h1.ne fun hb => ?_).symm
  rw [hb] at h2
  exact absurd h2 (by simp)

variable [Facts]

/-- The rank-zero shape has one index. -/
instance : Subsingleton S_.Idx := ⟨fun i j => funext fun a => a.elim0⟩

variable {x : FVec Ideal S4096x64 .f32} {tc : IVec S4096 32} {cl : FVec Ideal S10x512x64 .f32}

/-- The samples are finite. -/
theorem samples_real (h : fn x tc cl = fun _ => 1#1) (j : S4096x64.Idx) : x j = (((x j : EReal).toReal : ℝ) : EReal) := by
  have h1 := Host.reduce_andi_all _ _ _ _ _ (IntOp.andi_eq_one.1 (IntOp.andi_eq_one.1 (congrFun h ix0)).1).1 j
  refine real_of_below ?_
  rw [← word_top]
  exact h1

/-- The prototypes are finite. -/
theorem prototypes_real (h : fn x tc cl = fun _ => 1#1) (j : S10x512x64.Idx) :
    cl j = (((cl j : EReal).toReal : ℝ) : EReal) := by
  have h1 := Host.reduce_andi_all _ _ _ _ _ (IntOp.andi_eq_one.1 (congrFun h ix0)).2 j
  refine real_of_below ?_
  rw [← word_top]
  exact h1

/-- The target classes are below 10. -/
theorem classes_below (h : fn x tc cl = fun _ => 1#1) (j : S4096.Idx) : (tc j).toNat < 10 := by
  have h1 := Host.reduce_andi_all _ _ _ _ _ (IntOp.andi_eq_one.1 (IntOp.andi_eq_one.1 (congrFun h ix0)).1).2 j
  have h2 : IntOp.andi (IntOp.cmpi .sge (tc j) 0#32) (IntOp.cmpi .slt (tc j) (BitVec.ofNat 32 10)) = 1#1 := h1
  rw [WordCmp.andi_sge_zero_slt_ofNat (by decide)] at h2
  by_contra hn
  simp [hn] at h2

end Cert.Precondition

end
-- ==== Proof.Nearest.lean ====
module

public import proofs.«01_k».proof.Proof.ReferenceTerms
public import proofs.«01_k».proof.Proof.Arith
public import Idealize.ShloMosaic.Lib.Pointwise

/-!
# The index of the least

The reference finds the nearest prototype by a reduction over (value, index) pairs. Over the extended reals each step
keeps one of its two pairs, one whose value is not above the other's. So when every value is below infinity, the index
found is that of a prototype at the least distance.
-/

@[expose] public section

noncomputable section

namespace Cert.Nearest

open Cert.ReferenceIdeal Cert.ReferenceIdeal.Gen Cert.ReferenceTerms Idealize.ShloMosaic Idealize.ShloMosaic.Pointwise

/-- "Or" with the set bit is set. -/
theorem set_or (x : BitVec 1) : 1#1 ||| x = 1#1 := by revert x; decide

/-- "And" with the set bit changes nothing. -/
theorem set_and (x : BitVec 1) : 1#1 &&& x = x := by revert x; decide

/-- One step of the reduction keeps one of its pairs, whose value is not above the other's. -/
theorem step_keeps (a b : EReal × BitVec 32) :
    (reducer_argmin_f32_i32 (F := Ideal) a b = a ∧ a.1 ≤ b.1) ∨ (reducer_argmin_f32_i32 (F := Ideal) a b = b ∧ b.1 ≤ a.1) := by
  obtain ⟨a1, a2⟩ := a
  obtain ⟨b1, b2⟩ := b
  rcases lt_trichotomy a1 b1 with h | h | h
  · left
    refine ⟨?_, h.le⟩
    simp [reducer_argmin_f32_i32, FloatOps.cmpf, Ideal.cmp, h, IntOp.ori, IntOp.andi, Scalar.select, set_or]
  · subst h
    by_cases h2 : IntOp.cmpi .slt a2 b2 = 1#1
    · left
      simp [reducer_argmin_f32_i32, FloatOps.cmpf, Ideal.cmp, h2, IntOp.ori, IntOp.andi, Scalar.select]
    · right
      simp [reducer_argmin_f32_i32, FloatOps.cmpf, Ideal.cmp, h2, IntOp.ori, IntOp.andi, Scalar.select, set_and]
  · right
    refine ⟨?_, h.le⟩
    simp [reducer_argmin_f32_i32, FloatOps.cmpf, Ideal.cmp, h.not_gt, h.ne', IntOp.ori, IntOp.andi, Scalar.select]

/-- The whole reduction ends at a pair of the list (or the first one), whose value is not above any other's. -/
theorem fold_keeps (L : List (EReal × BitVec 32)) : ∀ a : EReal × BitVec 32,
    let r := L.foldl (reducer_argmin_f32_i32 (F := Ideal)) a
    (r = a ∨ r ∈ L) ∧ r.1 ≤ a.1 ∧ ∀ q ∈ L, r.1 ≤ q.1 := by
  induction L with
  | nil => intro a; simp
  | cons b L ih =>
    intro a
    obtain ⟨hm, ha, hL⟩ := ih (reducer_argmin_f32_i32 (F := Ideal) a b)
    simp only [List.foldl_cons, List.mem_cons]
    rcases step_keeps a b with ⟨e, h⟩ | ⟨e, h⟩ <;> rw [e] at hm ha hL ⊢
    · refine ⟨hm.imp_right Or.inr, ha, ?_⟩
      rintro q (rfl | hq)
      exacts [ha.trans h, hL q hq]
    · refine ⟨Or.inr hm, ha.trans h, ?_⟩
      rintro q (rfl | hq)
      exacts [ha, hL q hq]

/-- The index a reduction from infinity ends at, when some element is reduced there and all of them are below
infinity: that of a least one. -/
theorem argReduce_least {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx)
    (hix : (ix (Shape.Idx.first hu) : EReal) = ⊤) (hd : ∀ i, h.drop i = j → (x i : EReal) < ⊤) (hne : ∃ i, h.drop i = j) :
    ∃ i, h.drop i = j ∧ (Host.argReduce (reducer_argmin_f32_i32 (F := Ideal)) x y ix iy h hu j).2 = y i ∧
      ∀ i', h.drop i' = j → (x i : EReal) ≤ x i' := by
  rw [Ideal.argReduce_eq_reduce2, Host.reduce2_eq_foldl_fiber]
  obtain ⟨hm, -, hL⟩ := fold_keeps (Host.argReduceFiber x y h j) (ix (Shape.Idx.first hu), iy (Shape.Idx.first hu))
  have hfib : ∀ q, q ∈ Host.argReduceFiber x y h j ↔ ∃ i, h.drop i = j ∧ q = (x i, y i) := by
    intro q
    simp only [Host.argReduceFiber, List.mem_map, List.mem_filter, List.mem_finRange, true_and, decide_eq_true_eq]
    constructor
    · rintro ⟨n, hn, rfl⟩
      exact ⟨_, hn, rfl⟩
    · rintro ⟨i, hi, rfl⟩
      exact ⟨s.rowMajor i, by simpa using hi, by simp⟩
  generalize List.foldl _ _ _ = r at hm hL ⊢
  have hle : ∀ i, h.drop i = j → r.1 ≤ x i := fun i hi => hL _ ((hfib _).2 ⟨i, hi, rfl⟩)
  rcases hm with rfl | hm
  · obtain ⟨i, hi⟩ := hne
    have h1 := hle i hi
    rw [hix] at h1
    exact absurd h1 (not_le.mpr (hd i hi))
  · obtain ⟨i, hi, rfl⟩ := (hfib r).1 hm
    exact ⟨i, hi, rfl, hle⟩

/-- The reduction that `nearest` names. -/
theorem nearest_eq (d : FVec Ideal S10x4096x512 .f32) :
    nearest d = fun j => (Host.argReduce reducer_argmin_f32_i32 d (iotaInDim S10x4096x512 32 2)
      (constant S_ .f32 0x7F800000#32) (constantI S_ 32 0#32) reducesTo_S10x4096x512_S10x4096_d2 h_S_ j).2 := by
  delta nearest
  with_reducible rfl

/-- The index found for sample `b` and class `k`, when its distances are below infinity: one of a least distance. -/
theorem nearest_least (d : FVec Ideal S10x4096x512 .f32) (k : Fin 10) (b : Fin 4096)
    (hd : ∀ p : Fin 512, (d (ix3 k b p) : EReal) < ⊤) :
    ∃ p : Fin 512, nearest d (ix2 k b) = BitVec.ofNat 32 p ∧ ∀ q : Fin 512, (d (ix3 k b p) : EReal) ≤ d (ix3 k b q) := by
  have hf : ∀ i, reducesTo_S10x4096x512_S10x4096_d2.drop i = ix2 k b ↔ ∃ p : Fin 512, ix3 k b p = i :=
    reducesTo_S10x4096x512_S10x4096_d2.fiber_r3_a2 (ix2 k b)
  have hw : ((constant S_ .f32 0x7F800000#32 : FVec Ideal S_ .f32) (Shape.Idx.first h_S_) : EReal) = ⊤ := Arith.word_top
  have hd' : ∀ i, reducesTo_S10x4096x512_S10x4096_d2.drop i = ix2 k b → (d i : EReal) < ⊤ := by
    intro i hi
    obtain ⟨p, rfl⟩ := (hf i).1 hi
    exact hd p
  obtain ⟨i, hi, e, hle⟩ := argReduce_least d (iotaInDim S10x4096x512 32 2) (constant S_ .f32 0x7F800000#32)
    (constantI S_ 32 0#32) reducesTo_S10x4096x512_S10x4096_d2 h_S_ (ix2 k b) hw hd' ⟨ix3 k b 0, (hf _).2 ⟨0, rfl⟩⟩
  obtain ⟨p, rfl⟩ := (hf i).1 hi
  refine ⟨p, ?_, fun q => hle (ix3 k b q) ((hf _).2 ⟨q, rfl⟩)⟩
  have hi : iotaInDim S10x4096x512 32 2 (ix3 k b p) = BitVec.ofNat 32 p := by pointwise []
  rw [hi] at e
  rw [congrFun (nearest_eq d) (ix2 k b)]
  exact e

end Cert.Nearest

end
-- ==== Proof.ReferenceValue.lean ====
module

public import proofs.«01_k».proof.Proof.Nearest
public import Idealize.ShloMosaic.Lib.Pointwise
public import Idealize.ShloMosaic.Lib.WordCmp

/-!
# The value of the reference

On finite samples and prototypes, with every target class in range, the reference's mean is the mean over the samples
of the squared distance to a nearest prototype of the sample's own class.
-/

@[expose] public section

noncomputable section

namespace Cert.ReferenceValue

open Cert.ReferenceIdeal Cert.ReferenceIdeal.Gen Cert.ReferenceTerms Cert.Arith
open Idealize.ShloMosaic Idealize.ShloMosaic.Pointwise

/-- The coordinate a gather reads at, on a collapsed axis that the start indices name: the start index. -/
theorem coordinate {s si t : Shape} (d : GatherDims s si t) (j : t.Idx) (idx : IVec si 32) (a : Fin s.rank)
    (hm : a ∈ d.startIndexMap) (hc : a ∈ d.collapsedSliceDims) (hb : a ∉ d.operandBatchingDims) (i : si.Idx)
    (hi : d.siIdx j ⟨List.idxOf a d.startIndexMap, List.idxOf_lt_length_iff.2 hm⟩ = i) (n : ℕ)
    (hn : (idx i).toInt.toNat = n) (hlt : n ≤ s.size a - d.sliceSizes a) :
    d.start j idx a + d.batchCoord j a + d.offCoord j a = n := by
  rw [d.batchCoord_eq_zero j a hb, d.offCoord_eq_zero j a fun h => ((d.mem_sKept a).mp h).1 hc]
  unfold GatherDims.start
  rw [dif_pos hm, hi, hn]
  omega

/-- The first gather reads the table at the pair of indices of its row. -/
theorem gather_index {α : Type} (v : S10x4096.Idx → α) (idx : IVec S4096x2 32) (b : Fin 4096) (k : Fin 10) (n : Fin 4096)
    (hk : (idx (ix2 b 0)).toInt.toNat = k) (hn : (idx (ix2 b 1)).toInt.toNat = n) :
    Host.gather gather_S10x4096_S4096x2_S4096_n_01_n_n_01_1_11 v idx (ix1 b) = v (ix2 k n) := by
  unfold Host.gather
  congr 1
  funext a
  refine Fin.ext ?_
  have ha : a = 0 ∨ a = 1 := by
    match a with
    | ⟨0, _⟩ => exact Or.inl rfl
    | ⟨1, _⟩ => exact Or.inr rfl
  rcases ha with rfl | rfl
  · refine coordinate gather_S10x4096_S4096x2_S4096_n_01_n_n_01_1_11 _ _ _ (List.mem_cons_self ..)
      (List.mem_cons_self ..) List.not_mem_nil (ix2 b 0) ?_ k hk (Nat.le_of_lt_succ k.isLt)
    funext c; refine Fin.ext ?_
    match c with
    | ⟨0, _⟩ => rfl
    | ⟨1, _⟩ => rfl
  · refine coordinate gather_S10x4096_S4096x2_S4096_n_01_n_n_01_1_11 _ _ _ (List.mem_cons_of_mem _ (List.mem_cons_self ..))
      (List.mem_cons_of_mem _ (List.mem_cons_self ..)) List.not_mem_nil (ix2 b 1) ?_ n hn (Nat.le_of_lt_succ n.isLt)
    funext c; refine Fin.ext ?_
    match c with
    | ⟨0, _⟩ => rfl
    | ⟨1, _⟩ => rfl

/-- The second gather reads the prototype at the pair of indices of its row. -/
theorem gather_row {α : Type} (v : S10x512x64.Idx → α) (idx : IVec S4096x2 32) (b : Fin 4096) (d : Fin 64) (k : Fin 10)
    (p : Fin 512) (hk : (idx (ix2 b 0)).toInt.toNat = k) (hp : (idx (ix2 b 1)).toInt.toNat = p) :
    Host.gather gather_S10x512x64_S4096x2_S4096x64_1_01_n_n_01_1_1164 v idx (ix2 b d) = v (ix3 k p d) := by
  unfold Host.gather
  congr 1
  funext a
  refine Fin.ext ?_
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · refine coordinate gather_S10x512x64_S4096x2_S4096x64_1_01_n_n_01_1_1164 _ _ _ (List.mem_cons_self ..)
      (List.mem_cons_self ..) List.not_mem_nil (ix2 b 0) ?_ k hk (Nat.le_of_lt_succ k.isLt)
    funext c; refine Fin.ext ?_
    match c with
    | ⟨0, _⟩ => rfl
    | ⟨1, _⟩ => rfl
  · refine coordinate gather_S10x512x64_S4096x2_S4096x64_1_01_n_n_01_1_1164 _ _ _
      (List.mem_cons_of_mem _ (List.mem_cons_self ..)) (List.mem_cons_of_mem _ (List.mem_cons_self ..)) List.not_mem_nil
      (ix2 b 1) ?_ p hp (Nat.le_of_lt_succ p.isLt)
    funext c; refine Fin.ext ?_
    match c with
    | ⟨0, _⟩ => rfl
    | ⟨1, _⟩ => rfl
  · have h2 : (2 : Fin 3) ∉ [(0 : Fin 3), 1] := by decide
    show GatherDims.start _ (ix2 b d) idx 2 + GatherDims.batchCoord _ (ix2 b d) 2 + GatherDims.offCoord _ (ix2 b d) 2 = _
    rw [GatherDims.batchCoord_eq_zero _ _ _ List.not_mem_nil]
    unfold GatherDims.start
    rw [dif_neg (show (2 : Fin 3) ∉ gather_S10x512x64_S4096x2_S4096x64_1_01_n_n_01_1_1164.startIndexMap from h2)]
    simp only [Nat.add_zero, Nat.zero_add]
    rfl

/-- An index that is not negative is not wrapped. -/
theorem wrapped_at (n : BitVec 32) (i : IVec S4096 32) (b : Fin 4096) (h : (i (ix1 b)).toNat < 2 ^ 31) :
    wrapped n i (ix1 b) = i (ix1 b) := by
  pointwise [wrapped]
  rw [WordCmp.cmpi_slt_zero]
  rw [decide_eq_false (by omega)]
  simp [Scalar.select]

/-- The two columns of the index pairs. -/
theorem pairs_at (i j : IVec S4096 32) (b : Fin 4096) :
    pairs (F := Ideal) i j (ix2 b 0) = i (ix1 b) ∧ pairs (F := Ideal) i j (ix2 b 1) = j (ix1 b) := by
  constructor <;> pointwise [pairs, joined] <;> rfl

/-- A word below the sign bit, read as a signed number, is its natural. -/
theorem signed_nat (w : BitVec 32) (h : w.toNat < 2 ^ 31) : w.toInt.toNat = w.toNat := by
  rw [BitVec.toInt_eq_toNat_of_lt (by omega)]
  rfl

/-- The row of class `k` in the table of nearest indices, at the sample's own column. -/
theorem ownNearest_at (tc : IVec S4096 32) (near : IVec S10x4096 32) (b : Fin 4096) (k : Fin 10)
    (hk : (tc (ix1 b)).toNat = k) : ownNearest (F := Ideal) tc near (ix1 b) = near (ix2 k b) := by
  have hb : ((iotaInDim S4096 32 0) (ix1 b)).toNat = b := by
    have h0 : (iotaInDim S4096 32 0) (ix1 b) = BitVec.ofNat 32 b := by pointwise []
    rw [h0, BitVec.toNat_ofNat]
    have := b.isLt
    omega
  have := k.isLt
  have := b.isLt
  unfold ownNearest
  refine gather_index _ _ b k b ?_ ?_
  · rw [(pairs_at _ _ b).1, wrapped_at _ _ _ (by omega), signed_nat _ (by omega), hk]
  · rw [(pairs_at _ _ b).2, wrapped_at _ _ _ (by omega), signed_nat _ (by omega), hb]

/-- The prototype row read for a sample. -/
theorem ownPrototype_at (cl : FVec Ideal S10x512x64 .f32) (tc i : IVec S4096 32) (b : Fin 4096) (d : Fin 64) (k : Fin 10)
    (p : Fin 512) (hk : (tc (ix1 b)).toNat = k) (hp : (i (ix1 b)).toNat = p) :
    ownPrototype cl tc i (ix2 b d) = cl (ix3 k p d) := by
  have := k.isLt
  have := p.isLt
  unfold ownPrototype
  refine gather_row _ _ b d k p ?_ ?_
  · rw [(pairs_at _ _ b).1, wrapped_at _ _ _ (by omega), signed_nat _ (by omega), hk]
  · rw [(pairs_at _ _ b).2, wrapped_at _ _ _ (by omega), signed_nat _ (by omega), hp]

variable {x : FVec Ideal S4096x64 .f32} {cl : FVec Ideal S10x512x64 .f32} {tc : IVec S4096 32}
  {xr : Fin 4096 → Fin 64 → ℝ} {cr : Fin 10 → Fin 512 → Fin 64 → ℝ} {kk : Fin 4096 → Fin 10}

/-- A distance is the root of the sum of the squared differences. -/
theorem distances_at (hx : ∀ b d, x (ix2 b d) = ((xr b d : ℝ) : EReal)) (hc : ∀ k p d, cl (ix3 k p d) = ((cr k p d : ℝ) : EReal))
    (k : Fin 10) (b : Fin 4096) (p : Fin 512) :
    distances x cl (ix3 k b p) = ((Real.sqrt (sqDist (xr b) (cr k p)) : ℝ) : EReal) := by
  pointwise [distances, squared]
  simp only [hx, hc, word_two]
  rw [expanded_eq', Arith.max_zero (sqDist_nonneg _ _)]
  rw [Ideal.sqrt_coe, if_neg (sqDist_nonneg _ _).not_gt]

/-- The reference's mean: over the samples, of the squared distance to a nearest prototype of their own class. -/
theorem mean_eq (hx : ∀ b d, x (ix2 b d) = ((xr b d : ℝ) : EReal)) (hc : ∀ k p d, cl (ix3 k p d) = ((cr k p d : ℝ) : EReal))
    (hk : ∀ b, (tc (ix1 b)).toNat = kk b) :
    ∃ p : Fin 4096 → Fin 512, (∀ b q, sqDist (xr b) (cr (kk b) (p b)) ≤ sqDist (xr b) (cr (kk b) q)) ∧
      meanSquare x (ownPrototype cl tc (ownNearest (F := Ideal) tc (nearest (distances x cl)))) ix0
        = (((∑ b, sqDist (xr b) (cr (kk b) (p b))) / 262144 : ℝ) : EReal) := by
  have hn : ∀ b, ∃ p : Fin 512, nearest (distances x cl) (ix2 (kk b) b) = BitVec.ofNat 32 p ∧
      ∀ q : Fin 512, sqDist (xr b) (cr (kk b) p) ≤ sqDist (xr b) (cr (kk b) q) := by
    intro b
    obtain ⟨p, e, hle⟩ := Nearest.nearest_least (distances x cl) (kk b) b fun p => by
      rw [distances_at hx hc]; exact EReal.coe_lt_top _
    refine ⟨p, e, fun q => ?_⟩
    have h := hle q
    rw [distances_at hx hc, distances_at hx hc, EReal.coe_le_coe_iff] at h
    exact (Real.sqrt_le_sqrt_iff (sqDist_nonneg _ _)).1 h
  choose p hp hle using hn
  refine ⟨p, hle, ?_⟩
  have hi : ∀ b, (ownNearest (F := Ideal) tc (nearest (distances x cl)) (ix1 b)).toNat = p b := by
    intro b
    rw [ownNearest_at tc _ b (kk b) (hk b), hp b, BitVec.toNat_ofNat]
    have := (p b).isLt
    omega
  have ho : ∀ b d, ownPrototype cl tc (ownNearest (F := Ideal) tc (nearest (distances x cl))) (ix2 b d)
      = ((cr (kk b) (p b) d : ℝ) : EReal) := fun b d => by
    rw [ownPrototype_at cl tc _ b d (kk b) (p b) (hk b) (hi b), hc]
  generalize ownPrototype cl tc _ = y at ho ⊢
  pointwise [meanSquare]
  simp only [hx, ho, word_count, ← EReal.coe_sub, ← EReal.coe_mul, ← coe_sum]
  rw [Ideal.div_coe (by norm_num), ← EReal.coe_mul, mul_one_div]
  rfl

end Cert.ReferenceValue

end
-- ==== Proof.KernelValue.lean ====
module

public import proofs.«01_k».proof.Proof.KernelTerms
public import proofs.«01_k».proof.Proof.Arith

/-!
# The value of the kernel

On finite samples and prototypes, with every target class in range, one grid point adds to the running total the sum
over its samples of the squared distance to a nearest prototype of the sample's own class; so the last total is that
sum over all samples.
-/

@[expose] public section

noncomputable section

namespace Cert.KernelValue

open Cert.KernelIdeal Cert.KernelIdeal.Gen Cert.KernelTerms Cert.Arith
open Idealize.ShloMosaic Idealize.ShloMosaic.Pointwise

/-- The column of prototype `p` of class `k`. -/
def col (k : Fin 10) (p : Fin 512) : Fin 5120 := ⟨512 * k.val + p.val, by omega⟩

/-- The columns hold the prototypes. -/
theorem columns_at (cl : Vec Ideal S10x512x64 .f32) (d : Fin 64) (k : Fin 10) (p : Fin 512) :
    columns cl (ix2 d (col k p)) = cl (ix3 k p d) := by
  unfold col
  pointwise [columns]

/-- The nest of selections by class picks the value of the class. -/
theorem select_class (w : BitVec 32) (k : Fin 10) (hw : w = BitVec.ofNat 32 k) (f : Fin 10 → EReal)
    {m0 m1 m2 m3 m4 m5 m6 m7 m8 m9 z : EReal} (h0 : m0 = f 0) (h1 : m1 = f 1) (h2 : m2 = f 2) (h3 : m3 = f 3)
    (h4 : m4 = f 4) (h5 : m5 = f 5) (h6 : m6 = f 6) (h7 : m7 = f 7) (h8 : m8 = f 8) (h9 : m9 = f 9) :
    Scalar.select (IntOp.cmpi .eq w 9#32) m9 (Scalar.select (IntOp.cmpi .eq w 8#32) m8
      (Scalar.select (IntOp.cmpi .eq w 7#32) m7 (Scalar.select (IntOp.cmpi .eq w 6#32) m6
      (Scalar.select (IntOp.cmpi .eq w 5#32) m5 (Scalar.select (IntOp.cmpi .eq w 4#32) m4
      (Scalar.select (IntOp.cmpi .eq w 3#32) m3 (Scalar.select (IntOp.cmpi .eq w 2#32) m2
      (Scalar.select (IntOp.cmpi .eq w 1#32) m1 (Scalar.select (IntOp.cmpi .eq w 0#32) m0 z))))))))) = f k := by
  subst hw h0 h1 h2 h3 h4 h5 h6 h7 h8 h9
  fin_cases k <;> rfl

section Point

variable {x : Vec Ideal S512x64 .f32} {ct : Vec Ideal S64x5120 .f32} {tc : Vec Ideal S1x1x512 .i32}
  {xr : Fin 512 → Fin 64 → ℝ} {cr : Fin 10 → Fin 512 → Fin 64 → ℝ} {kk : Fin 512 → Fin 10}

/-- The block of squared distances. -/
theorem block_at (hx : ∀ b d, x (ix2 b d) = ((xr b d : ℝ) : EReal)) (hc : ∀ k p d, ct (ix2 d (col k p)) = ((cr k p d : ℝ) : EReal))
    (b : Fin 512) (k : Fin 10) (p : Fin 512) :
    k0_pay2 x ct (ix2 b (col k p)) = ((sqDist (xr b) (cr k p) : ℝ) : EReal) := by
  pointwise [k0_pay2]
  simp only [hx, hc, word_two]
  rw [expanded_eq, Arith.max_zero (sqDist_nonneg _ _)]

/-- The least squared distance of a sample to the prototypes of a class, as the block has it. -/
def least (x : Vec Ideal S512x64 .f32) (ct : Vec Ideal S64x5120 .f32) (b : Fin 512) (k : Fin 10) : EReal :=
  Finset.univ.fold min (Ideal.ofBits .f32 0x7F800000#32) fun q : Fin 512 => k0_pay2 x ct (ix2 b (col k q))

/-- One grid point adds, for each of its samples, the least of the sample's own class. -/
theorem step_least (htc : ∀ b, tc (ix3 0 0 b) = BitVec.ofNat 32 (kk b)) (a : EReal) :
    step x tc ct a = a + ∑ b : Fin 512, least x ct b (kk b) := by
  pointwise [step, k0_pay7, k0_pay6, k0_pay5, k0_pay4, k0_pay3]
  congr 1
  refine Finset.sum_congr rfl fun b _ => ?_
  refine select_class _ (kk b) (htc b) (least x ct b) ?_ rfl rfl rfl rfl rfl rfl rfl rfl rfl
  unfold least
  refine Finset.fold_congr fun q _ => congrArg (fun i => k0_pay2 x ct (ix2 b i)) (Fin.ext ?_)
  simp [col]

/-- One grid point, in real numbers. -/
theorem step_eq (hx : ∀ b d, x (ix2 b d) = ((xr b d : ℝ) : EReal)) (hc : ∀ k p d, ct (ix2 d (col k p)) = ((cr k p d : ℝ) : EReal))
    (htc : ∀ b, tc (ix3 0 0 b) = BitVec.ofNat 32 (kk b)) (p : Fin 512 → Fin 512)
    (hp : ∀ b q, sqDist (xr b) (cr (kk b) (p b)) ≤ sqDist (xr b) (cr (kk b) q)) (a : ℝ) :
    step x tc ct ((a : ℝ) : EReal) = ((a + ∑ b, sqDist (xr b) (cr (kk b) (p b)) : ℝ) : EReal) := by
  rw [step_least htc, EReal.coe_add, coe_sum]
  refine congrArg (fun r : EReal => (a : EReal) + r) (Finset.sum_congr rfl fun b _ => ?_)
  unfold least
  rw [word_top, fold_min_eq _ (p b), block_at hx hc]
  intro q
  rw [block_at hx hc, block_at hx hc, EReal.coe_le_coe_iff]
  exact hp b q

end Point

section Total

variable {x : Vec Ideal S4096x64 .f32} {cl : Vec Ideal S10x512x64 .f32} {tc : Vec Ideal S4096 .i32}
  {xr : Fin 4096 → Fin 64 → ℝ} {cr : Fin 10 → Fin 512 → Fin 64 → ℝ} {kk : Fin 4096 → Fin 10}

/-- Sample `r` of grid point `t`. -/
def row (t : Fin 8) (r : Fin 512) : Fin 4096 := ⟨512 * t.val + r.val, by omega⟩

/-- Any sum over the samples is one over the grid points of sums over their samples. -/
theorem sum_rows (f : Fin 4096 → ℝ) : ∑ b, f b = ∑ t : Fin 8, ∑ r : Fin 512, f (row t r) := by
  rw [Fin.sum_univ_tiles 8 512 rfl f]
  refine Finset.sum_congr rfl fun t _ => Finset.sum_congr rfl fun r _ => congrArg f (Fin.ext ?_)
  simp only [row]
  omega

/-- The running total after grid point `n`. -/
theorem running_eq (hx : ∀ b d, x (ix2 b d) = ((xr b d : ℝ) : EReal)) (hc : ∀ k p d, cl (ix3 k p d) = ((cr k p d : ℝ) : EReal))
    (hk : ∀ b, (tc (ix1 b)).toNat = kk b) (p : Fin 4096 → Fin 512)
    (hp : ∀ b q, sqDist (xr b) (cr (kk b) (p b)) ≤ sqDist (xr b) (cr (kk b) q)) : ∀ (n : ℕ) (h : n < 8),
    running x tc cl n h
      = ((∑ t : Fin (n + 1), ∑ r : Fin 512,
          sqDist (xr (row ⟨t, by omega⟩ r)) (cr (kk (row ⟨t, by omega⟩ r)) (p (row ⟨t, by omega⟩ r))) : ℝ) : EReal) := by
  have hs : ∀ (t : Fin 8) (a : ℝ), step (samples x t) (classes tc t) (columns cl) ((a : ℝ) : EReal)
      = ((a + ∑ r : Fin 512, sqDist (xr (row t r)) (cr (kk (row t r)) (p (row t r))) : ℝ) : EReal) := by
    intro t a
    refine step_eq (xr := fun r => xr (row t r)) (cr := cr) (kk := fun r => kk (row t r)) (fun b d => hx (row t b) d)
      (fun k q d => ?_) (fun b => ?_) (fun r => p (row t r)) (fun b q => hp (row t b) q) a
    · rw [columns_at, hc]
    · show tc (ix1 (row t b)) = _
      rw [← hk (row t b), BitVec.ofNat_toNat, BitVec.setWidth_eq]
  intro n
  induction n with
  | zero =>
    intro h
    have h0 : (Scalar.ofBits .f32 0x00000000#32 : Ideal .f32) = ((0 : ℝ) : EReal) := Ideal.ofBits_zero_f32
    show step _ _ _ _ = _
    rw [h0, hs]
    simp
  | succ n ih =>
    intro h
    show step _ _ _ _ = _
    rw [ih (Nat.lt_of_succ_lt h), hs]
    conv_rhs => rw [Fin.sum_univ_castSucc]
    rfl

/-- The last running total: the sum over all samples. -/
theorem total_eq (hx : ∀ b d, x (ix2 b d) = ((xr b d : ℝ) : EReal)) (hc : ∀ k p d, cl (ix3 k p d) = ((cr k p d : ℝ) : EReal))
    (hk : ∀ b, (tc (ix1 b)).toNat = kk b) (p : Fin 4096 → Fin 512)
    (hp : ∀ b q, sqDist (xr b) (cr (kk b) (p b)) ≤ sqDist (xr b) (cr (kk b) q)) (h : 7 < 8) :
    running x tc cl 7 h = ((∑ b, sqDist (xr b) (cr (kk b) (p b)) : ℝ) : EReal) := by
  rw [running_eq hx hc hk p hp, sum_rows]

end Total

end Cert.KernelValue

end
-- ==== Proof.Equation.lean ====
module

public import proofs.«01_k».proof.Proof.Precondition
public import proofs.«01_k».proof.Proof.ReferenceValue
public import proofs.«01_k».proof.Proof.KernelValue
public import proofs.«01_k».proof.Proof.Gen.Pre_finite_in_classes
public import proofs.«01_k».proof.Proof.Gen.TargetLossIdeal.Skeleton

/-!
# The two results are equal

Under the precondition the kernel's last running total over 262144 is the reference's mean, so the two weighted losses
are equal, at either pair of weights.
-/

@[expose] public section

noncomputable section

namespace Cert.Equation

open Cert.ReferenceIdeal Cert.ReferenceTerms Cert.KernelTerms Cert.Arith
open Idealize.ShloMosaic Idealize.ShloMosaic.Pointwise

variable {x : FVec Ideal S4096x64 .f32} {tc : IVec S4096 32} {cl : FVec Ideal S10x512x64 .f32}

/-- The kernel's last total over the count is the reference's mean. -/
theorem total_over_count (hpre : Cert.Pre_finite_in_classes.fn x tc cl = fun _ => 1#1) (h : 7 < 8) :
    Ideal.div (running (F := Ideal) x tc cl 7 h) (Ideal.ofBits .f32 0x48800000#32)
      = meanSquare x (ownPrototype cl tc (ownNearest (F := Ideal) tc (nearest (distances x cl)))) ix0 := by
  have hx : ∀ b d, x (ix2 b d) = (((x (ix2 b d) : EReal).toReal : ℝ) : EReal) :=
    fun b d => Precondition.samples_real hpre (ix2 b d)
  have hc : ∀ k p d, cl (ix3 k p d) = (((cl (ix3 k p d) : EReal).toReal : ℝ) : EReal) :=
    fun k p d => Precondition.prototypes_real hpre (ix3 k p d)
  have hk : ∀ b, (tc (ix1 b)).toNat = (⟨(tc (ix1 b)).toNat, Precondition.classes_below hpre (ix1 b)⟩ : Fin 10) :=
    fun _ => rfl
  obtain ⟨p, hp, e⟩ := ReferenceValue.mean_eq (xr := fun b d => (x (ix2 b d) : EReal).toReal)
    (cr := fun k p d => (cl (ix3 k p d) : EReal).toReal)
    (kk := fun b => ⟨(tc (ix1 b)).toNat, Precondition.classes_below hpre (ix1 b)⟩) hx hc hk
  have ht := KernelValue.total_eq (xr := fun b d => (x (ix2 b d) : EReal).toReal)
    (cr := fun k p d => (cl (ix3 k p d) : EReal).toReal)
    (kk := fun b => ⟨(tc (ix1 b)).toNat, Precondition.classes_below hpre (ix1 b)⟩) hx hc hk p hp h
  rw [e, ht, word_count, Ideal.div_coe (by norm_num), ← EReal.coe_mul, mul_one_div]

/-- The weighted loss at its one index. -/
theorem weighted_at (a b : BitVec 32) (t : FVec Ideal S_ .f32) (j : S1x1.Idx) :
    weighted a b t j = Ideal.ofBits .f32 a * t ix0 + Ideal.ofBits .f32 b * (1 - t ix0) := by
  pointwise [weighted]

/-- The loss of the kernel is the loss of the reference. -/
theorem loss_eq (hpre : Cert.Pre_finite_in_classes.fn x tc cl = fun _ => 1#1) (h : 7 < 8) :
    loss 0x40A00000#32 0x40A00000#32 x tc cl
      = fun _ => Cert.KernelIdeal.Gen.k0_pay1 (F := Ideal) (running (F := Ideal) x tc cl 7 h) := by
  funext j
  unfold loss
  rw [weighted_at, ← total_over_count hpre h, ← Ideal.ofBits_one_f32]
  rfl

/-- The target loss of the kernel is the target loss of the reference. -/
theorem target_loss_eq (hpre : Cert.Pre_finite_in_classes.fn x tc cl = fun _ => 1#1) (h : 7 < 8) :
    loss 0x3F800000#32 0x00000000#32 x tc cl
      = fun _ => Cert.TargetLossIdeal.Gen.k0_pay1 (F := Ideal) (running (F := Ideal) x tc cl 7 h) := by
  funext j
  unfold loss
  rw [weighted_at, ← total_over_count hpre h, ← Ideal.ofBits_one_f32]
  rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.TargetLossIdeal
public import proofs.«01_k».proof.Proof.Gen.TargetLossIdeal.Skeleton
public import proofs.«01_k».proof.Proof.Gen.TargetLossIdeal.Launch
public import proofs.«01_k».proof.Proof.Gen.TargetLossIdeal.Points
public import proofs.«01_k».proof.Proof.Gen.TargetLossIdeal.Frame
public import proofs.«01_k».proof.Proof.Gen.TargetLossIdeal.Value
public import proofs.«01_k».proof.Proof.Gen.TargetLossReferenceIdeal
public import proofs.«01_k».proof.Proof.Gen.Pre_finite_in_classes
public import proofs.«01_k».proof.Proof.Gen.KernelIdeal.Value
public import proofs.«01_k».proof.Proof.KernelRun
public import proofs.«01_k».proof.Proof.TargetKernelRun
public import proofs.«01_k».proof.Proof.ReferenceRun
public import proofs.«01_k».proof.Proof.TargetReferenceRun
public import proofs.«01_k».proof.Proof.Equation
public import Idealize.ShloMosaic.Adequacy
public import Idealize.ShloMosaic.Init

/-!
# The claims

Both programs of each pair run and leave their arguments and every semaphore as they were; the idealized kernel is the
kernel's own text; and under the precondition the results of each pair are equal.
-/

@[expose] public section

noncomputable section

namespace Cert.Proof

open Idealize.ShloMosaic Idealize.SL.Sem

/-- The reference runs, keeps its arguments and ends with every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Run.run m ρ)

/-- The reference of the target loss runs, keeps its arguments and ends with every semaphore at zero. -/
theorem target_reference_frame
    (m : (ℓ : Loc Cert.TargetLossReferenceIdeal.nD Cert.TargetLossReferenceIdeal.τ Cert.TargetLossReferenceIdeal.sig) → Buf (Elt Ideal) ℓ)
    (ρ : Dev Cert.TargetLossReferenceIdeal.nD → PrngReg) :
    θ_run (Cert.TargetLossReferenceIdeal.defs (F := Ideal))
      (onTc (τ := Cert.TargetLossReferenceIdeal.τ) (Cert.TargetLossReferenceIdeal.main (F := Ideal)))
      ⟨m, fun _ => 0, ρ⟩ (fun r => (∀ c : Dev Cert.TargetLossReferenceIdeal.nD,
        r.2.mem ((c.tc : Thread Cert.TargetLossReferenceIdeal.nD Cert.TargetLossReferenceIdeal.τ).loc Cert.TargetLossReferenceIdeal.main_arg0)
          = m ((c.tc : Thread Cert.TargetLossReferenceIdeal.nD Cert.TargetLossReferenceIdeal.τ).loc Cert.TargetLossReferenceIdeal.main_arg0)
        ∧ r.2.mem ((c.tc : Thread Cert.TargetLossReferenceIdeal.nD Cert.TargetLossReferenceIdeal.τ).loc Cert.TargetLossReferenceIdeal.main_arg1)
          = m ((c.tc : Thread Cert.TargetLossReferenceIdeal.nD Cert.TargetLossReferenceIdeal.τ).loc Cert.TargetLossReferenceIdeal.main_arg1)
        ∧ r.2.mem ((c.tc : Thread Cert.TargetLossReferenceIdeal.nD Cert.TargetLossReferenceIdeal.τ).loc Cert.TargetLossReferenceIdeal.main_arg2)
          = m ((c.tc : Thread Cert.TargetLossReferenceIdeal.nD Cert.TargetLossReferenceIdeal.τ).loc Cert.TargetLossReferenceIdeal.main_arg2))
        ∧ r.2.sem = fun _ => 0) :=
  (θ_run Cert.TargetLossReferenceIdeal.defs _ _).mono
    (fun r h => ⟨fun c => (h c).2, Idealize.ShloMosaic.sem_eq_zero_of_no_sems (by decide) r.2⟩)
    (Cert.TargetLossReferenceIdeal.Run.run m ρ)

/-- The kernel's loss is the reference's loss. -/
theorem losses_equal : Cert.algebraic_KernelIdeal_ReferenceIdeal_pre_finite_in_classes := by
  intro m g m' g' hpre hagree
  refine ⟨Cert.KernelIdeal.Run.result m, Cert.KernelIdeal.Run.run m g,
    (θ_run Cert.ReferenceIdeal.defs _ _).mono (fun r h c => ⟨(h c).1.trans ?_, (h c).2⟩) (Cert.ReferenceIdeal.Run.run m' g')⟩
  rw [(hagree c).1, (hagree c).2.1, (hagree c).2.2]
  exact Cert.Equation.loss_eq (hpre c) (by decide)

/-- The kernel's target loss is the reference's target loss. -/
theorem target_losses_equal : Cert.algebraic_TargetLossIdeal_TargetLossReferenceIdeal := by
  intro m g m' g' hpre hagree
  refine ⟨Cert.TargetLossIdeal.Run.result m, Cert.TargetLossIdeal.Run.run m g,
    (θ_run Cert.TargetLossReferenceIdeal.defs _ _).mono (fun r h c => ⟨(h c).1.trans ?_, (h c).2⟩)
      (Cert.TargetLossReferenceIdeal.Run.run m' g')⟩
  rw [(hagree c).1, (hagree c).2.1, (hagree c).2.2]
  exact Cert.Equation.target_loss_eq (hpre c) (by decide)

/-- All the claims. -/
theorem claim : Cert.Claim :=
  ⟨Cert.Kernel.Gen.facts, Cert.KernelIdeal.Gen.facts, Cert.ReferenceIdeal.Gen.facts, Cert.TargetLossIdeal.Gen.facts,
    Cert.TargetLossReferenceIdeal.Gen.facts, Cert.Pre_finite_in_classes.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.TargetLossIdeal.Gen.frame m ρ,
    fun m ρ _ => target_reference_frame m ρ,
    trivial,
    losses_equal,
    target_losses_equal⟩

end Cert.Proof

end
